-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S7x128x1024 : Shape := ⟨3, ![7, 128, 1024]⟩
abbrev S7 : Shape := ⟨1, ![7]⟩
abbrev S_ : Shape := ⟨0, ![]⟩
abbrev S128x128 : Shape := ⟨2, ![128, 128]⟩
abbrev S1x128x1024 : Shape := ⟨3, ![1, 128, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S128x1024, .f32⟩
  | .hbm, ⟨2, _⟩ => ⟨S128x1024, .f32⟩
  | .local _ .vmem, ⟨0, _⟩ => ⟨S1024x128, .f32⟩
  | .local _ .vmem, ⟨1, _⟩ => ⟨S128x1024, .f32⟩
  | .local _ .vmem, ⟨2, _⟩ => ⟨S128x1024, .f32⟩
  | .local _ .vmem, ⟨3, _⟩ => ⟨S7x128x1024, .bf16⟩
  | .local _ .vmem, ⟨4, _⟩ => ⟨S7x128x1024, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 2 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_9 : BitVec 32 := 1#32
  let v18 : BitVec 32 := Scalar.muli v4 c1_i32_9
  let v19 : BitVec 32 := Scalar.addi c0_i32 v18
  v19.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_11 : BitVec 32 := 1#32
  let v20 : BitVec 32 := Scalar.muli v6 c1_i32_11
  let v21 : BitVec 32 := Scalar.addi c0_i32_12 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_14 : BitVec 32 := 1#32
  let v22 : BitVec 32 := Scalar.muli v8 c1_i32_14
  let v23 : BitVec 32 := Scalar.addi c0_i32_15 v22
  v23.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_17 : BitVec 32 := 1#32
  let v24 : BitVec 32 := Scalar.muli v10 c1_i32_17
  let v25 : BitVec 32 := Scalar.addi c0_i32_18 v24
  v25.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_20 : BitVec 32 := 1#32
  let v26 : BitVec 32 := Scalar.muli v12 c1_i32_20
  let v27 : BitVec 32 := Scalar.addi c0_i32_21 v26
  v27.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_23 : BitVec 32 := 1#32
  let v28 : BitVec 32 := Scalar.muli v14 c1_i32_23
  let v29 : BitVec 32 := Scalar.addi c0_i32_24 v28
  v29.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_26 : BitVec 32 := 1#32
  let v30 : BitVec 32 := Scalar.muli v16 c1_i32_26
  let v31 : BitVec 32 := Scalar.addi c0_i32_27 v30
  v31.toNat
def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c128_i32 : BitVec 32 := 128#32
  let v32 : BitVec 32 := Scalar.muli v4 c128_i32
  let v33 : Index := Scalar.indexCast v32
  let c0 : Index := 0#32
  ![v33.toNat, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_38 : BitVec 32 := 1#32
  let v43 : BitVec 32 := Scalar.muli v4 c1_i32_38
  let v44 : BitVec 32 := Scalar.addi c0_i32_39 v43
  v44.toNat
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_55 : BitVec 32 := 1#32
  let v64 : BitVec 32 := Scalar.muli v6 c1_i32_55
  let v65 : BitVec 32 := Scalar.addi c0_i32_56 v64
  v65.toNat
def k0_dev10 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_72 : BitVec 32 := 1#32
  let v85 : BitVec 32 := Scalar.muli v8 c1_i32_72
  let v86 : BitVec 32 := Scalar.addi c0_i32_73 v85
  v86.toNat
def k0_dev11 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_89 : BitVec 32 := 1#32
  let v106 : BitVec 32 := Scalar.muli v10 c1_i32_89
  let v107 : BitVec 32 := Scalar.addi c0_i32_90 v106
  v107.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_106 : BitVec 32 := 1#32
  let v127 : BitVec 32 := Scalar.muli v12 c1_i32_106
  let v128 : BitVec 32 := Scalar.addi c0_i32_107 v127
  v128.toNat
def k0_dev13 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_123 : BitVec 32 := 1#32
  let v148 : BitVec 32 := Scalar.muli v14 c1_i32_123
  let v149 : BitVec 32 := Scalar.addi c0_i32_124 v148
  v149.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_140 : BitVec 32 := 1#32
  let v169 : BitVec 32 := Scalar.muli v16 c1_i32_140
  let v170 : BitVec 32 := Scalar.addi c0_i32_141 v169
  v170.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_146 : BitVec 32 := 128#32
  let v179 : BitVec 32 := Scalar.muli v2 c128_i32_146
  let v180 : Index := Scalar.indexCast v179
  let c0_147 : Index := 0#32
  ![v180.toNat, 0]
def k0_dev15 (d0 : Dev nD) : Nat :=
  let c0_i32_272_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_271_r0 : BitVec 32 := 1#32
  let v271_r0 : BitVec 32 := Scalar.muli v4 c1_i32_271_r0
  let v272_r0 : BitVec 32 := Scalar.addi c0_i32_272_r0 v271_r0
  v272_r0.toNat
def k0_dev16 (d0 : Dev nD) : Nat :=
  let c0_i32_275_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_274_r0 : BitVec 32 := 1#32
  let v273_r0 : BitVec 32 := Scalar.muli v6 c1_i32_274_r0
  let v274_r0 : BitVec 32 := Scalar.addi c0_i32_275_r0 v273_r0
  v274_r0.toNat
def k0_dev17 (d0 : Dev nD) : Nat :=
  let c0_i32_278_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_277_r0 : BitVec 32 := 1#32
  let v275_r0 : BitVec 32 := Scalar.muli v8 c1_i32_277_r0
  let v276_r0 : BitVec 32 := Scalar.addi c0_i32_278_r0 v275_r0
  v276_r0.toNat
def k0_dev18 (d0 : Dev nD) : Nat :=
  let c0_i32_281_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_280_r0 : BitVec 32 := 1#32
  let v277_r0 : BitVec 32 := Scalar.muli v10 c1_i32_280_r0
  let v278_r0 : BitVec 32 := Scalar.addi c0_i32_281_r0 v277_r0
  v278_r0.toNat
def k0_dev19 (d0 : Dev nD) : Nat :=
  let c0_i32_284_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_283_r0 : BitVec 32 := 1#32
  let v279_r0 : BitVec 32 := Scalar.muli v12 c1_i32_283_r0
  let v280_r0 : BitVec 32 := Scalar.addi c0_i32_284_r0 v279_r0
  v280_r0.toNat
def k0_dev20 (d0 : Dev nD) : Nat :=
  let c0_i32_287_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_286_r0 : BitVec 32 := 1#32
  let v281_r0 : BitVec 32 := Scalar.muli v14 c1_i32_286_r0
  let v282_r0 : BitVec 32 := Scalar.addi c0_i32_287_r0 v281_r0
  v282_r0.toNat
def k0_dev21 (d0 : Dev nD) : Nat :=
  let c0_i32_290_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_289_r0 : BitVec 32 := 1#32
  let v283_r0 : BitVec 32 := Scalar.muli v16 c1_i32_289_r0
  let v284_r0 : BitVec 32 := Scalar.addi c0_i32_290_r0 v283_r0
  v284_r0.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Mesh.lean ====
/-
# The mesh of eight devices and the seven slots of an exchange buffer

Device `c` sends in seven slots: slot `k` (counted from 0) goes to the device `k + 1` places after `c` around the ring
of eight, and what arrives in its slot `k` comes from the device `k + 1` places before it. This file names those two
devices, the slot of a buffer of seven blocks as the kernel's transfers, loads and stores name it, and shows that the
seven slots part the buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Who sends to whom -/

set_option backward.proofsInPublic true in
/-- The device slot `k` of device `c` goes to: `k + 1` places after `c`. -/
def peer (k : Fin 7) (c : Dev nD) : Dev nD := ⟨(c.val + (k.val + 1)) % 8, Nat.mod_lt _ (by decide)⟩
set_option backward.proofsInPublic true in
/-- The device whose slot `k` goes to `c`: `k + 1` places before `c`. -/
def src (k : Fin 7) (c : Dev nD) : Dev nD := ⟨(c.val + (7 - k.val)) % 8, Nat.mod_lt _ (by decide)⟩

theorem src_peer (k : Fin 7) (c : Dev nD) : src k (peer k c) = c := by revert k c; decide
theorem peer_src (k : Fin 7) (c : Dev nD) : peer k (src k c) = c := by revert k c; decide
/-- Counted the other way around the ring, the sources are the peers. -/
theorem src_rev (k : Fin 7) (c : Dev nD) : src k.rev c = peer k c := by revert k c; decide
theorem peer_rev (k : Fin 7) (c : Dev nD) : peer k.rev c = src k c := by revert k c; decide
theorem peer_inj (c : Dev nD) {k k' : Fin 7} : peer k c = peer k' c → k = k' := by revert k k' c; decide

/-- Going to slot `k`'s peer, as a permutation of the devices. -/
def around (k : Fin 7) : Dev nD ≃ Dev nD := ⟨peer k, src k, src_peer k, peer_src k⟩

/-! ## The slots of a buffer of seven blocks -/

theorem slot_inb (k : Fin 7) : ∀ a, (![k.val, 0, 0] : Fin 3 → Nat) a + S1x128x1024.size a ≤ S7x128x1024.size a := by
  revert k; decide

/-- Slot `k` as a rectangle of the buffer. -/
abbrev slotR (k : Fin 7) : Rect S7x128x1024 := Rect.unit (s := S7x128x1024) ![k.val, 0, 0] S1x128x1024.size (slot_inb k)

/-- Slot `k` as the transfers name it: the rectangle, its first axis dropped. -/
abbrev slotM (m : Memref sig .tc .vmem S7x128x1024 .bf16) (k : Fin 7) : Memref sig .tc .vmem S128x1024 .bf16 :=
  (m.slice (slotR k) (fun _ => rfl)).squeeze S128x1024 squeezes_S1x128x1024_S128x1024

/-- The kernel's two exchange buffers, and its three staging buffers, whole. -/
abbrev sM : Memref sig .tc .vmem S7x128x1024 .bf16 := Memref.whole cc0_scratch0
abbrev rM : Memref sig .tc .vmem S7x128x1024 .bf16 := Memref.whole cc0_scratch1
abbrev xM : Memref sig .tc .vmem S1024x128 .f32 := Memref.whole cc0_stg0_0
abbrev wM : Memref sig .tc .vmem S128x1024 .f32 := Memref.whole cc0_stg1_0
abbrev oM : Memref sig .tc .vmem S128x1024 .f32 := Memref.whole cc0_stg2_0

/-- Slot `k`'s elements in a buffer. -/
theorem slot_set (m : Memref sig .tc .vmem S7x128x1024 .bf16) (k : Fin 7) : (slotM m k).view.set = (m.access (slotR k)).set :=
  View.set_reshape _ _

/-- Two slots share no element. -/
theorem slotR_disjoint {k k' : Fin 7} (h : k ≠ k') : Disjoint (slotR k).set (slotR k').set := by
  rw [Finset.disjoint_left]
  intro i hi hi'
  rw [Rect.mem_set_unit] at hi hi'
  have h1 := hi 0
  have h2 := hi' 0
  simp only [Matrix.cons_val_zero] at h1 h2
  exact h (Fin.ext (by omega))

/-- Every element lies in the slot its first coordinate names. -/
theorem slotR_cover (i : S7x128x1024.Idx) : i ∈ (slotR (i 0)).set := by
  rw [Rect.mem_set_unit]
  intro a
  match a with
  | ⟨0, _⟩ => exact ⟨le_rfl, Nat.lt_succ_self _⟩
  | ⟨1, _⟩ => exact ⟨Nat.zero_le _, (i 1).isLt.trans_eq (Nat.zero_add _).symm⟩
  | ⟨2, _⟩ => exact ⟨Nat.zero_le _, (i 2).isLt.trans_eq (Nat.zero_add _).symm⟩

section Part

variable {F : FTy → Type} {U : Type} [URA U]

local notation "𝕄" => MT nD τ sig Unit (Elt F) ℕ U ℕ

/-- Slot `k` of device `c`'s buffer held outright, at contents `f`. -/
def slotPts (m : Memref sig .tc .vmem S7x128x1024 .bf16) (c : Dev nD) (k : Fin 7) (f : Buf (Elt F) ((slotM m k).view.loc (c : Thread nD τ))) : sProp 𝕄 :=
  (slotM m k).view.loc (c : Thread nD τ) ↦[(slotM m k).view.set]{fullShare} f

instance slotPts_storable (m : Memref sig .tc .vmem S7x128x1024 .bf16) (c : Dev nD) (k : Fin 7) (f) :
    BI.Storable (upEmb : UEmb _ 𝕄) (slotPts m c k f) := by unfold slotPts; infer_instance

/-- Two slots' elements in a buffer are disjoint; -/
theorem slot_disjoint (m : Memref sig .tc .vmem S7x128x1024 .bf16) (k k' : Fin 7) (h : k ≠ k') :
    Disjoint (slotM m k).view.set (slotM m k').view.set := by
  rw [slot_set, slot_set, View.set_slice, View.set_slice, Finset.disjoint_map]
  exact slotR_disjoint h

/-- and together they are the buffer's. -/
theorem slot_cover (m : Memref sig .tc .vmem S7x128x1024 .bf16) :
    (Finset.univ.biUnion fun k : Fin 7 => (slotM m k).view.set) = m.view.set := by
  ext i
  rw [Finset.mem_biUnion]
  constructor
  · rintro ⟨k, -, hi⟩
    rw [slot_set] at hi
    exact View.set_slice_subset _ _ hi
  · intro hi
    obtain ⟨x, -, rfl⟩ := Finset.mem_map.mp hi
    refine ⟨(x 0 : Fin 7), Finset.mem_univ _, ?_⟩
    have h := Finset.mem_map_of_mem m.view.emb (slotR_cover x)
    rw [← View.set_slice] at h
    exact (slot_set m (x 0 : Fin 7)).symm ▸ h

/-- A buffer held outright is held slot by slot; -/
theorem slots_split (m : Memref sig .tc .vmem S7x128x1024 .bf16) (c : Dev nD) (f : Buf (Elt F) (m.view.loc (c : Thread nD τ))) :
    (m.view.loc (c : Thread nD τ) ↦[m.view.set]{fullShare} f : sProp 𝕄) = bigSep Finset.univ fun k => slotPts m c k f :=
  Ring.pointsTo_sub_blocks (ℓ := m.view.loc (c : Thread nD τ)) (fun k : Fin 7 => (slotM m k).view.set) (slot_disjoint m) _ (slot_cover m) f

/-- and its slots, each at contents of its own, are the buffer held at some contents. -/
theorem slots_join [FloatOps F] (m : Memref sig .tc .vmem S7x128x1024 .bf16) (c : Dev nD) (f₀ : Buf (Elt F) (m.view.loc (c : Thread nD τ))) :
    (bigSep Finset.univ fun k => iprop(∃ f, slotPts m c k f) : sProp 𝕄)
      ⊢ iprop(∃ g : Buf (Elt F) (m.view.loc (c : Thread nD τ)), m.view.loc (c : Thread nD τ) ↦[m.view.set]{fullShare} g) :=
  Ring.pointsTo_sub_blocks_join_exists (ℓ := m.view.loc (c : Thread nD τ)) (fun k : Fin 7 => (slotM m k).view.set) (slot_disjoint m) _
    (slot_cover m) f₀

end Part

section Contents

variable {F : FTy → Type}

/-- What slot `k` of a buffer holds, as the kernel's loads read it. -/
def slotRead (m : Memref sig .tc .vmem S7x128x1024 .bf16) (k : Fin 7) (f : m.view.ty.Contents (Elt F)) : Vec F S1x128x1024 .bf16 :=
  m.view.readAt (Elt F) (slotR k).toLoadRect f

/-- A store of a whole slot is what the slot then holds. -/
theorem slotRead_store (m : Memref sig .tc .vmem S7x128x1024 .bf16) (k : Fin 7) (f : m.view.ty.Contents (Elt F)) (w : Vec F S1x128x1024 .bf16) :
    slotRead m k ((m.access (slotR k)).write (Elt F) f w Finset.univ) = w :=
  (m.access (slotR k)).read_write_univ f w

/-- A block read through one view and written through another, both with an axis dropped, is then read through the
    second as it was through the first, no axis dropped. -/
theorem read_write_dropped {κ κ' : Kind} {sp sp' : Space} {s s' : Shape} {e : EltTy} (v : View sig κ sp s e) (v' : View sig κ' sp' s e)
    (h : s'.numel = s.numel) (f : v.ty.Contents (Elt F)) (g : v'.ty.Contents (Elt F)) :
    v'.read (Elt F) ((v'.reshape s' h).write (Elt F) g ((v.reshape s' h).read (Elt F) f) Finset.univ) = v.read (Elt F) f := by
  refine (congrArg _ (View.write_reshape_univ v' h g _)).trans ((v'.read_write_univ g _).trans ?_)
  funext x
  show v.read (Elt F) f (Shape.reshapeEquiv _ ((Shape.reshapeEquiv _).symm x)) = _
  rw [Equiv.apply_symm_apply]

/-- A transfer of one buffer's slot into another's leaves there what the first slot held. -/
theorem slotRead_landed (m m' : Memref sig .tc .vmem S7x128x1024 .bf16) (k : Fin 7) (f : m.view.ty.Contents (Elt F)) (g : m'.view.ty.Contents (Elt F)) :
    slotRead m' k ((slotM m' k).view.write (Elt F) g ((slotM m k).view.read (Elt F) f) Finset.univ) = slotRead m k f :=
  read_write_dropped (m.access (slotR k)) (m'.access (slotR k)) (squeezes_S1x128x1024_S128x1024).numel_eq f g

end Contents

end Cert.Exchange

end
-- ==== Proof.Schedule.lean ====
/-
# The exchange: its counters, who pays them with what, and what each device owes

Every device holds one barrier counter that outlives the launch, a second barrier counter of the launch's own, and for
each slot one counter its sends complete on and one its arrivals complete on. This file gives each counter one round:

* the first barrier counter of `c` is paid one unit by each other device, which hands over with it the slot of its
  own arrival buffer that `c` is going to write;
* an arrival counter is paid by the transfer into the slot, with the slot holding what the sender put there;
* a send counter is paid by the transfer out of the slot, with the slot itself;
* the second barrier counter is paid one unit by each other device, with nothing.

Devices wait only on counters of a lower level than everything they still owe: first barrier below arrivals below second
barrier.
-/
module

public import proofs.«01_k».proof.Proof.Mesh

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The counters -/

theorem sem_inb (k : Fin 7) : ∀ a, (![k.val] : Fin 1 → Nat) a + S1.size a ≤ S7.size a := by revert k; decide

/-- The counter slot `k`'s sends complete on, and the one its arrivals complete on. -/
abbrev sendS (k : Fin 7) : DmaSem sig :=
  ((cc0_scratch2.slice (Rect.unit (s := S7) ![k.val] S1.size (sem_inb k))).squeeze S_ squeezes_S1_S_).sem
abbrev recvS (k : Fin 7) : DmaSem sig :=
  ((cc0_scratch3.slice (Rect.unit (s := S7) ![k.val] S1.size (sem_inb k))).squeeze S_ squeezes_S1_S_).sem
/-- The barrier counter that outlives the launch, and the launch's own. -/
abbrev barS : Sem sig := (SemArray.scalar (sig.barrier 0 rfl) : Sems sig S_).sem
abbrev bar2S : Sem sig := cc0_scoped0.sem

/-- A device's counters: the ones the launch allots it (its own barrier counter; the send counters; the arrival
    counters), and before them the barrier counter that outlives the launch. -/
abbrev Own : Type := Unit ⊕ (Fin 7 ⊕ Fin 7)
abbrev Cell : Type := Unit ⊕ Own

@[match_pattern] abbrev Cell.bar : Cell := .inl ()
@[match_pattern] abbrev Cell.bar2 : Cell := .inr (.inl ())
@[match_pattern] abbrev Cell.send (k : Fin 7) : Cell := .inr (.inr (.inl k))
@[match_pattern] abbrev Cell.recv (k : Fin 7) : Cell := .inr (.inr (.inr k))

/-- The semaphore behind each counter. -/
def osem : Own → SemLoc sig
  | .inl () => .reg bar2S
  | .inr (.inl k) => .dma (sendS k)
  | .inr (.inr k) => .dma (recvS k)
def csem : Cell → SemLoc sig
  | .inl () => .reg barS
  | .inr o => osem o

theorem csem_injective : Function.Injective csem := by decide

/-- A device's counter as the machine names it. -/
abbrev kcell (x : Dev nD × Cell) : GSem nD τ sig := ((x.1 : Thread nD τ), csem x.2)

theorem kcell_injective : Function.Injective kcell := by
  rintro ⟨c, k⟩ ⟨c', k'⟩ h
  obtain rfl : c = c' := congrArg (fun g : GSem nD τ sig => g.1.1) h
  obtain rfl : k = k' := csem_injective (congrArg Prod.snd h)
  rfl

/-- The counter a semaphore is behind, if it is one of the exchange's. -/
def which : SemLoc sig → Option Cell := Function.partialInv csem
theorem which_csem (k : Cell) : which (csem k) = some k := Function.partialInv_left csem_injective k
theorem which_none {q : SemLoc sig} (h : ∀ k, csem k ≠ q) : which q = none := by
  cases e : which q with
  | none => rfl
  | some k => exact absurd ((Function.partialInv_of_injective csem_injective k q).mp e) (h k)

/-- The units a transfer of a slot pays. -/
abbrev N : ℕ := (slotM rM 0).view.dmaCredit
theorem N_pos : 0 < N := View.dmaCredit_pos _ (by decide)
/-- Every slot of either buffer is waited for in as many units. -/
theorem credit_recv (k : Fin 7) : (slotM rM k).view.dmaCredit = N := rfl
theorem credit_send (k : Fin 7) : (slotM sM k).view.dmaCredit = N := by
  show sig.dmaCredit .tc _ _ _ _ = sig.dmaCredit .tc _ _ _ _
  simp only [RefSig.dmaCredit]

/-- Which payments a counter's round has, of how many units each, and how many units in all. -/
def duty : Cell → Finset (Fin 7)
  | .bar | .bar2 => Finset.univ
  | .send _ | .recv _ => {0}
def amt : Cell → ℕ
  | .bar | .bar2 => 1
  | .send _ | .recv _ => N
def total : Cell → ℕ
  | .bar | .bar2 => 7
  | .send _ | .recv _ => N
/-- The level a counter is waited on at. -/
def level : Cell → ℕ
  | .bar => 1
  | .recv _ => 2
  | .bar2 => 3
  | .send _ => 0

theorem amt_pos (k : Cell) : 0 < amt k := by
  match k with
  | .bar | .bar2 => exact Nat.one_pos
  | .send _ | .recv _ => exact N_pos
theorem total_eq (k : Cell) : (duty k).sum (fun _ => amt k) = total k := by
  match k with
  | .bar | .bar2 => rfl
  | .send _ | .recv _ => exact Finset.sum_singleton _ _

/-! ## Contents -/

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-- What the pipeline stages of device `c`'s two arguments. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The 128 rows of the staged `x` at an offset, as the kernel loads them; and the staged `w`, loaded whole. -/
def rowsAt (off : Fin 2 → Nat) (h : ∀ a, off a + S128x128.size a ≤ S1024x128.size a) (f : (cc0_stg0_0 : Ref sig .tc).ty.Contents (Elt F)) :
    Vec F S128x128 .f32 := xM.view.readAt (Elt F) (Rect.unit (s := S1024x128) off S128x128.size h).toLoadRect f
abbrev w0 : Rect S128x1024 := Rect.unit (s := S128x1024) ![0, 0] S128x1024.size inb_S128x1024_S128x1024_0_0
def wholeW (f : (cc0_stg1_0 : Ref sig .tc).ty.Contents (Elt F)) : Vec F S128x1024 .f32 := wM.view.readAt (Elt F) w0.toLoadRect f

/-- What device `c` puts in its slot `k`: the rows of `x` that belong to the slot's peer, times `w`, narrowed. -/
def sent (c : Dev nD) (k : Fin 7) : Vec F S1x128x1024 .bf16 :=
  k0_pay1 (rowsAt (k0_off1 c (BitVec.ofNat 32 (1 + k.val))) (k0_off1_inb c k) (xstg m ρ c)) (wholeW (wstg m ρ c))

/-- A slot held at contents nothing is said of; -/
def slotAny (M : Memref sig .tc .vmem S7x128x1024 .bf16) (c : Dev nD) (k : Fin 7) : sProp 𝕄 := iprop(∃ f, slotPts M c k f)
/-- the slot of the arrival buffer, landed; and the slot of the send buffer, filled. -/
def landed (c : Dev nD) (k : Fin 7) : sProp 𝕄 := iprop(∃ f, ⌜slotRead rM k f = sent m ρ (src k c) k⌝ ∗ slotPts rM c k f)
def filled (c : Dev nD) (k : Fin 7) : sProp 𝕄 := iprop(∃ f, ⌜slotRead sM k f = sent m ρ c k⌝ ∗ slotPts sM c k f)

instance slotAny_storable (M : Memref sig .tc .vmem S7x128x1024 .bf16) (c : Dev nD) (k : Fin 7) :
    BI.Storable (upEmb : UEmb _ 𝕄) (slotAny (F := F) M c k) := by unfold slotAny; infer_instance
instance landed_storable (c : Dev nD) (k : Fin 7) : BI.Storable (upEmb : UEmb _ 𝕄) (landed (F := F) m ρ c k) := by unfold landed; infer_instance

/-! ## The schedule -/

/-- What payment `d` of device `c`'s counter hands over. -/
def pay (c : Dev nD) : Cell → Fin 7 → sProp 𝕄
  | .bar, d => slotAny rM (src d c) d.rev
  | .bar2, _ => iprop(emp)
  | .send k, _ => slotAny sM c k
  | .recv k, _ => landed m ρ c k

instance pay_storable (c : Dev nD) (k : Cell) (d : Fin 7) : BI.Storable (upEmb : UEmb _ 𝕄) (pay (F := F) m ρ c k d) := by
  match k with
  | .bar | .bar2 | .send _ | .recv _ => unfold pay; infer_instance

/-- One round for each of the exchange's counters, round 0. -/
def Rd : Rounds.Schedule (GSem nD τ sig) (Fin 7) 𝕄 where
  duties g r := if r = 0 ∧ g.1.2 = .tc then (which g.2).elim ∅ duty else ∅
  unitless _ := False
  amount g _ _ := (which g.2).elim 1 amt
  payload g _ d := (which g.2).elim iprop(emp) fun k => pay m ρ g.1.1 k d
  amount_pos g _ _ _ := by
    cases which g.2 with
    | none => exact Nat.one_pos
    | some k => exact amt_pos k

instance Rd_storable (g : GSem nD τ sig) (r : ℕ) (d : Fin 7) : BI.Storable (upEmb : UEmb _ 𝕄) ((Rd (F := F) m ρ).payload g r d) := by
  show BI.Storable upEmb ((which g.2).elim iprop(emp) fun k => pay m ρ g.1.1 k d)
  cases which g.2 with
  | none => show BI.Storable upEmb iprop(emp); infer_instance
  | some k => exact pay_storable m ρ _ _ _

theorem duties_kcell (x : Dev nD × Cell) : (Rd (F := F) m ρ).duties (kcell x) 0 = duty x.2 := by
  dsimp only [Rd]; rw [if_pos ⟨rfl, rfl⟩, which_csem]; rfl
theorem duties_later (g : GSem nD τ sig) : ∀ r, 1 ≤ r → (Rd (F := F) m ρ).duties g r = ∅ :=
  fun r hr => by dsimp only [Rd]; rw [if_neg fun h => by omega]
theorem amount_kcell (x : Dev nD × Cell) (d : Fin 7) : (Rd (F := F) m ρ).amount (kcell x) 0 d = amt x.2 := by
  dsimp only [Rd]; rw [which_csem]; rfl
theorem payload_kcell (x : Dev nD × Cell) (d : Fin 7) : (Rd (F := F) m ρ).payload (kcell x) 0 d = pay m ρ x.1 x.2 d := by
  dsimp only [Rd]; rw [which_csem]; rfl
theorem expect_kcell (x : Dev nD × Cell) : (Rd (F := F) m ρ).expect (kcell x) 0 = total x.2 := by
  unfold Schedule.expect Schedule.amountOf
  rw [duties_kcell, Finset.sum_congr rfl fun d _ => amount_kcell m ρ x d, total_eq]
/-- The round's payments, none taken yet. -/
theorem rest_kcell (x : Dev nD × Cell) :
    bigSep ((Rd (F := F) m ρ).duties (kcell x) 0 \ ∅) (fun d => (Rd (F := F) m ρ).payload (kcell x) 0 d) = bigSep (duty x.2) (pay m ρ x.1 x.2) := by
  rw [Finset.sdiff_empty, duties_kcell]
  exact bigSep_congr fun d _ => payload_kcell m ρ x d

/-! ## Slots still to go and slots done -/

/-- The slots from `j` on, and those before `j`. -/
def left (j : ℕ) : Finset (Fin 7) := Finset.univ.filter fun k => j ≤ k.val
def past (j : ℕ) : Finset (Fin 7) := Finset.univ.filter fun k => k.val < j

theorem mem_left {j : ℕ} {k : Fin 7} : k ∈ left j ↔ j ≤ k.val := by unfold left; rw [Finset.mem_filter]; exact and_iff_right (Finset.mem_univ _)
theorem mem_past {j : ℕ} {k : Fin 7} : k ∈ past j ↔ k.val < j := by unfold past; rw [Finset.mem_filter]; exact and_iff_right (Finset.mem_univ _)
theorem left_not (k : Fin 7) : k ∉ left (k.val + 1) := fun h => absurd (mem_left.mp h) (Nat.not_succ_le_self _)
theorem past_not (k : Fin 7) : k ∉ past k.val := fun h => absurd (mem_past.mp h) (Nat.lt_irrefl _)
theorem left_succ (k : Fin 7) : left k.val = insert k (left (k.val + 1)) := by
  ext i; rw [Finset.mem_insert, mem_left, mem_left, Fin.ext_iff]; omega
theorem past_succ (k : Fin 7) : past (k.val + 1) = insert k (past k.val) := by
  ext i; rw [Finset.mem_insert, mem_past, mem_past, Fin.ext_iff]; omega
theorem left_zero : left 0 = Finset.univ := by decide
theorem past_seven : past 7 = Finset.univ := by decide
theorem left_seven : left 7 = ∅ := by decide
theorem past_zero : past 0 = ∅ := by decide

theorem bigSep_left {M : Type} [URA M] (Φ : Fin 7 → sProp M) (k : Fin 7) : bigSep (left k.val) Φ = iprop(Φ k ∗ bigSep (left (k.val + 1)) Φ) := by
  rw [left_succ]; exact bigSep_insert (left_not k)
theorem bigSep_past {M : Type} [URA M] (Φ : Fin 7 → sProp M) (k : Fin 7) : bigSep (past (k.val + 1)) Φ = iprop(Φ k ∗ bigSep (past k.val) Φ) := by
  rw [past_succ]; exact bigSep_insert (past_not k)

/-! ## What a device owes -/

/-- One payment to each peer of the slots in `S`, on the counter `x` names for the slot. -/
def owedTo (x : Fin 7 → Cell) (S : Finset (Fin 7)) (c : Dev nD) : CellTallies nD τ sig Unit :=
  S.sum fun k => tallyAt (kcell (peer k c, x k)) () (amt (x k))

/-- What device `c` owes when its first barrier's payments from `i` on, its transfers from `j` on and its second
    barrier's payments from `l` on are still to be made. -/
def owed (i j l : ℕ) (c : Dev nD) : CellTallies nD τ sig Unit :=
  owedTo (fun _ => .bar) (left i) c + owedTo Cell.recv (left j) c + owedTo (fun _ => .bar2) (left l) c

theorem owedTo_left (x : Fin 7 → Cell) (k : Fin 7) (c : Dev nD) :
    owedTo x (left k.val) c = owedTo x (left (k.val + 1)) c + tallyAt (kcell (peer k c, x k)) () (amt (x k)) := by
  unfold owedTo; rw [left_succ, Finset.sum_insert (left_not k), add_comm]
theorem owedTo_none (x : Fin 7 → Cell) (c : Dev nD) : owedTo x (left 7) c = 0 := by
  unfold owedTo; rw [left_seven, Finset.sum_empty]

theorem owed_bar (k : Fin 7) (c : Dev nD) :
    owed k.val 0 0 c = owed (k.val + 1) 0 0 c + tallyAt (kcell (peer k c, Cell.bar)) () 1 := by
  unfold owed; rw [owedTo_left, add_right_comm (owedTo _ (left (k.val + 1)) c), add_right_comm (owedTo _ (left (k.val + 1)) c + _)]; rfl
theorem owed_recv (k : Fin 7) (c : Dev nD) :
    owed 7 k.val 0 c = owed 7 (k.val + 1) 0 c + tallyAt (kcell (peer k c, Cell.recv k)) () N := by
  unfold owed; rw [owedTo_left Cell.recv, ← add_assoc, add_right_comm]; rfl
theorem owed_bar2 (k : Fin 7) (c : Dev nD) :
    owed 7 7 k.val c = owed 7 7 (k.val + 1) c + tallyAt (kcell (peer k c, Cell.bar2)) () 1 := by
  unfold owed; rw [owedTo_left (fun _ => .bar2), ← add_assoc]; rfl
theorem owed_none (c : Dev nD) : owed 7 7 7 c = 0 := by
  unfold owed; rw [owedTo_none, owedTo_none, owedTo_none, add_zero, add_zero]

theorem owedTo_pos {x : Fin 7 → Cell} {S : Finset (Fin 7)} {c : Dev nD} {g : GSem nD τ sig} {u : Unit} (h : 0 < owedTo x S c g u) :
    ∃ k ∈ S, g = kcell (peer k c, x k) := by
  unfold owedTo at h
  rw [Finset.sum_apply, Finsupp.finset_sum_apply] at h
  obtain ⟨k, hk, hne⟩ := Finset.exists_ne_zero_of_sum_ne_zero h.ne'
  refine ⟨k, hk, ?_⟩
  by_contra hg
  exact hne (by rw [tallyAt_apply, if_neg fun h' => hg h'.1])

/-- Whatever is still owed is owed on one of the exchange's counters, at the level the phase has reached or above. -/
theorem owed_pos {i j l : ℕ} {c : Dev nD} {g : GSem nD τ sig} {u : Unit} (h : 0 < owed i j l c g u) :
    ∃ x : Dev nD × Cell, g = kcell x ∧ 1 ≤ level x.2 ∧ (7 ≤ i → 2 ≤ level x.2) ∧ (7 ≤ i → 7 ≤ j → 3 ≤ level x.2) := by
  unfold owed at h
  rw [Pi.add_apply, Finsupp.add_apply, Pi.add_apply, Finsupp.add_apply] at h
  have h3 : 0 < owedTo (fun _ => .bar) (left i) c g u ∨ 0 < owedTo Cell.recv (left j) c g u ∨ 0 < owedTo (fun _ => .bar2) (left l) c g u := by omega
  rcases h3 with h | h | h <;> obtain ⟨k, hk, rfl⟩ := owedTo_pos h
  · exact ⟨_, rfl, le_rfl, fun hi => absurd (hi.trans (mem_left.mp hk)) (by omega), fun hi => absurd (hi.trans (mem_left.mp hk)) (by omega)⟩
  · exact ⟨_, rfl, Nat.le_of_ble_eq_true rfl, fun _ => le_rfl, fun _ hj => absurd (hj.trans (mem_left.mp hk)) (by omega)⟩
  · exact ⟨_, rfl, Nat.le_of_ble_eq_true rfl, fun _ => Nat.le_of_ble_eq_true rfl, fun _ _ => le_rfl⟩

/-! ## Levels -/

def L (g : GSem nD τ sig) : Finset Unit := if g.1.2 = .tc then {()} else ∅
def lv (g : GSem nD τ sig) (_ : Unit) : ℕ := (which g.2).elim 0 level

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _
theorem lv_kcell (x : Dev nD × Cell) (u : Unit) : lv (kcell x) u = level x.2 := by unfold lv; rw [which_csem]; rfl

/-- A device may wait on a counter whose level is below that of all it owes. -/
theorem mayWait_of (c : Dev nD) (sm : SemLoc sig) (n : ℕ) (O : CellTallies nD τ sig Unit) (hsm : lv ((c : Thread nD τ), sm) () ≤ n)
    (hO : ∀ g u, 0 < O g u → ∃ x : Dev nD × Cell, g = kcell x ∧ n < level x.2) :
    (levAts L lv : sProp 𝕄) ⊢ MayWait (c : Thread nD τ) sm () O :=
  MayOwe.of_cut (L := L) (lev := lv) n (fun p hp => by rw [Finset.mem_singleton.mp hp]; exact mem_L c sm ())
    (fun g u hg => by obtain ⟨x, rfl, -⟩ := hO g u hg; exact mem_L x.1 _ u)
    (fun p hp => by rw [Finset.mem_singleton.mp hp]; exact hsm)
    (fun g u hg => by obtain ⟨x, rfl, hx⟩ := hO g u hg; rw [lv_kcell]; exact hx)

/-- At a staging counter's wait, owing everything; -/
theorem mayWait_stage (c : Dev nD) (sm : SemLoc sig) (h : ∀ k, csem k ≠ sm) :
    (levAts L lv : sProp 𝕄) ⊢ MayWait (c : Thread nD τ) sm () (owed 0 0 0 c) :=
  mayWait_of c sm 0 _ (by unfold lv; rw [which_none h]; exact le_rfl) fun g u hg => by
    obtain ⟨x, e, h1, -⟩ := owed_pos hg; exact ⟨x, e, h1⟩
/-- at its first barrier's, owing its transfers and its second barrier's payments; -/
theorem mayWait_bar (c : Dev nD) : (levAts L lv : sProp 𝕄) ⊢ MayWait (c : Thread nD τ) (csem Cell.bar) () (owed 7 0 0 c) :=
  mayWait_of c _ 1 _ (lv_kcell (c, Cell.bar) ()).le fun g u hg => by
    obtain ⟨x, e, -, h2, -⟩ := owed_pos hg; exact ⟨x, e, h2 le_rfl⟩
/-- at an arrival's, owing its second barrier's payments only. -/
theorem mayWait_recv (c : Dev nD) (k : Fin 7) : (levAts L lv : sProp 𝕄) ⊢ MayWait (c : Thread nD τ) (csem (Cell.recv k)) () (owed 7 7 0 c) :=
  mayWait_of c _ 2 _ (lv_kcell (c, Cell.recv k) ()).le fun g u hg => by
    obtain ⟨x, e, -, -, h3⟩ := owed_pos hg; exact ⟨x, e, h3 le_rfl le_rfl⟩

end Cert.Exchange

end
-- ==== Proof.Steps.lean ====
/-
# The kernel's steps, each stated once for every slot

The kernel's body is five stretches, each of seven like steps: it pays the peers' first barrier counters; it fills a
slot and sends it; it waits for a slot's arrival and loads it; it pays the peers' second barrier counters; it waits for
a slot's send. Each stretch has a state counted by the slots it has done, and each step moves that state on by one.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The rest of device `c`'s body, run to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows of every counter -/

/-- Every counter's invariant, under the names `K`, and that each has reached its one round. -/
def records (K : Dev nD × Cell → ℕ) : sProp 𝕄 :=
  iprop((bigSep Finset.univ fun x => cellInv ER (Rd m ρ) (K x) (kcell x)) ∗ bigSep Finset.univ fun x => reached ER (kcell x) 0)

instance records_persistent (K : Dev nD × Cell → ℕ) : BI.Persistent (records m ρ K) := by unfold records; infer_instance

/-- A counter's own two facts. -/
theorem records_at (K : Dev nD × Cell → ℕ) (x : Dev nD × Cell) :
    records m ρ K ⊢ iprop(cellInv ER (Rd m ρ) (K x) (kcell x) ∗ reached ER (kcell x) 0) := by
  unfold records
  exact BIClass.sep_mono (bigSep_elim (Finset.mem_univ x)) (bigSep_elim (Finset.mem_univ x))

/-- Those, and the counters' levels: what every step has at hand. -/
def facts (K : Dev nD × Cell → ℕ) : sProp 𝕄 := iprop(records m ρ K ∗ levAts L lv)

instance facts_persistent (K : Dev nD × Cell → ℕ) : BI.Persistent (facts m ρ K) := by unfold facts; infer_instance

/-- A step keeps the facts it runs from. -/
theorem keep {P A B R R' : sProp 𝕄} [BI.Persistent P] (h : iprop(P ∗ A) ⊢ iprop((B -∗ R) -∗ R')) : iprop(P ∗ A) ⊢ iprop(((P ∗ B) -∗ R) -∗ R') := by
  iintro ⟨#HP, HA⟩ Hk
  iapply h $$ [HA]
  · isplitr; · iexact HP
    iexact HA
  iintro HB
  iapply Hk
  isplitr; · iexact HP
  iexact HB

section Steps

variable (K : Dev nD × Cell → ℕ) (c : Dev nD)

/-- What device `c` owes, whatever waits it has recorded. -/
def owing (O : CellTallies nD τ sig Unit) : sProp 𝕄 := iprop(∃ W, owes (c : Thread nD τ) O W)

/-- One unit paid to a peer's barrier counter, with the payment's token and what it hands over. -/
theorem step_unit (x : Dev nD × Cell) {s : Sem sig} (hs : csem x.2 = .reg s) (d : Fin 7) (hd : d ∈ duty x.2) (ha : amt x.2 = 1) {n : Dev nD} (hn : n = x.1)
    (O : CellTallies nD τ sig Unit) {α : Type} {Q : α → sProp 𝕄} {k : PUnit → Prog (TpuEff nD τ sig (Elt F) Λ₀ .tc) α} :
    iprop(records m ρ K ∗ owing (F := F) c (O + tallyAt (kcell x) () 1) ∗ dutyTok ER (kcell x) 0 d ∗ pay m ρ x.1 x.2 d)
      ⊢ iprop((owing (F := F) c O -∗ run c (k ⟨⟩) Q) -∗ run c (.op (.semSignal ((n : Thread nD τ)) s (BitVec.toInt 1#32)) k) Q) := by
  subst hn
  unfold owing
  iintro ⟨#HR, ⟨%W, HO⟩, Ht, Hp⟩ Hk
  ihave Hx := (records_at m ρ K x) $$ HR
  icases Hx with ⟨#HI, #Hr⟩
  have e : kcell x = ((x.1 : Thread nD τ), .reg s) := by unfold kcell; rw [hs]
  have hd' : d ∈ (Rd (F := F) m ρ).duties ((x.1 : Thread nD τ), .reg s) 0 := by rw [← e, duties_kcell]; exact hd
  have ha' : (Rd (F := F) m ρ).amount ((x.1 : Thread nD τ), .reg s) 0 d = 1 := by rw [← e, amount_kcell]; exact ha
  have hp := payload_kcell m ρ x d
  rw [e] at hp ⊢
  iapply (Rounds.wp_signal 𝒱₀ ER (Rd m ρ) (c : Thread nD τ) none (dst := (x.1 : Thread nD τ)) (κ := K x) (d := d) hd' ha' () O rfl) $$ [HO Ht Hp]
  · isplitr; · iexact HI
    isplitl [HO]; · iexact HO
    isplitl [Ht]; · iexact Ht
    isplitl [Hp]; · rw [hp]; iexact Hp
    iexact Hr
  iintro HO
  iapply Hk
  iexists W; iexact HO

/-- A counter's round waited for whole: its position moves past it, and all its payments are handed over. -/
theorem step_wait (k : Cell) (O : CellTallies nD τ sig Unit) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem k) (total k) P)
    {α : Type} {Q : α → sProp 𝕄} {kk : PUnit → Prog (TpuEff nD τ sig (Elt F) Λ₀ .tc) α} :
    iprop(records m ρ K ∗ owing (F := F) c O ∗ MayWait (c : Thread nD τ) (csem k) () O ∗ cred (tallyAt (kcell (c, k)) () (total k)) ∗ atPos ER (kcell (c, k)) 0 ∅ 0)
      ⊢ iprop(((owing (F := F) c O ∗ atPos ER (kcell (c, k)) 1 ∅ 0 ∗ bigSep (duty k) (pay m ρ c k)) -∗ run c (kk ⟨⟩) Q) -∗ run c (.op w kk) Q) := by
  unfold owing
  iintro ⟨#HR, ⟨%W, HO⟩, Hm, Hc, Ha⟩ Hk
  ihave Hx := (records_at m ρ K (c, k)) $$ HR
  icases Hx with ⟨#HI, #Hr⟩
  iapply (Rounds.wp_wait_rest_token 𝒱₀ ER (Rd m ρ) (c : Thread nD τ) none (κ := K (c, k)) (sm := csem k) (k' := total k) hw (Set.mem_univ _) ()
    (O := O) (W := W) (R := 0) (m := 0) (T := ∅) ((Nat.zero_add _).trans (expect_kcell m ρ (c, k)).symm)) $$ [HO Hm Hc Ha]
  · isplitr; · iexact HI
    isplitl [Hc]; · iexact Hc
    isplitl [HO]; · iexact HO
    isplitl [Hm]; · iexact Hm
    iexact Ha
  iintro ⟨HO, Ha, -, Hp⟩
  iapply Hk
  isplitl [HO]; · iexists _; iexact HO
  isplitl [Ha]; · iexact Ha
  iapply (Entails.of_eq (rest_kcell m ρ (c, k))); iexact Hp

/-! ## The first barrier -/

/-- Before paying from slot `j` on: the debts and tokens left, and the arrival slots to lend with them. -/
def stA (j : ℕ) : sProp 𝕄 :=
  iprop(owing (F := F) c (owed j 0 0 c) ∗ bigSep (left j) fun k => iprop(dutyTok ER (kcell (peer k c, Cell.bar)) 0 k ∗ slotAny rM c k.rev))

theorem step_bar (k : Fin 7) {j : ℕ} (hj : j = k.val) {n : Dev nD} (hn : n = peer k c) {α : Type} {Q : α → sProp 𝕄} {kk : PUnit → Prog (TpuEff nD τ sig (Elt F) Λ₀ .tc) α} :
    iprop(facts m ρ K ∗ stA (F := F) c j)
      ⊢ iprop((stA (F := F) c (j + 1) -∗ run c (kk ⟨⟩) Q) -∗ run c (.op (.semSignal ((n : Thread nD τ)) barS (BitVec.toInt 1#32)) kk) Q) := by
  subst hj
  unfold stA facts
  rw [owed_bar, bigSep_left]
  iintro ⟨⟨#HR, -⟩, HO, ⟨Ht, Hs⟩, Hrest⟩ Hk
  iapply (step_unit m ρ K c (peer k c, Cell.bar) rfl k (Finset.mem_univ k) rfl hn (owed (k.val + 1) 0 0 c)) $$ [HO Ht Hs]
  · isplitr; · iexact HR
    isplitl [HO]; · iexact HO
    isplitl [Ht]; · iexact Ht
    unfold pay; dsimp only; rw [src_peer]; iexact Hs
  iintro HO
  iapply Hk
  isplitl [HO]; · iexact HO
  iexact Hrest

/-- The wait on it: the peers' slots come with it. -/
theorem step_bar_wait {α : Type} {Q : α → sProp 𝕄} {kk : PUnit → Prog (TpuEff nD τ sig (Elt F) Λ₀ .tc) α} :
    iprop(facts m ρ K ∗ owing (F := F) c (owed 7 0 0 c) ∗ cred (tallyAt (kcell (c, Cell.bar)) () 7) ∗ atPos ER (kcell (c, Cell.bar)) 0 ∅ 0)
      ⊢ iprop(((owing (F := F) c (owed 7 0 0 c) ∗ atPos ER (kcell (c, Cell.bar)) 1 ∅ 0 ∗ bigSep Finset.univ fun k => slotAny rM (peer k c) k) -∗ run c (kk ⟨⟩) Q)
          -∗ run c (.op (.semWait barS (BitVec.toInt 7#32)) kk) Q) := by
  unfold facts
  iintro ⟨⟨#HR, Hlev⟩, HO, Hc, Ha⟩ Hk
  iapply (step_wait m ρ K c Cell.bar (owed 7 0 0 c) (wpE_semWait_eq 𝒱₀ (c : Thread nD τ) none Set.univ)) $$ [Hlev HO Hc Ha]
  · isplitr; · iexact HR
    isplitl [HO]; · iexact HO
    isplitl [Hlev]; · iapply (mayWait_bar c); iexact Hlev
    isplitl [Hc]; · iexact Hc
    iexact Ha
  iintro ⟨HO, Ha, Hp⟩
  iapply Hk
  isplitl [HO]; · iexact HO
  isplitl [Ha]; · iexact Ha
  have e : (bigSep (duty Cell.bar) (pay (F := F) m ρ c Cell.bar) : sProp 𝕄) = bigSep Finset.univ fun k => slotAny rM (peer k c) k := by
    refine (bigSep_univ_equiv (Fin.revPerm (n := 7)) (pay m ρ c Cell.bar)).trans (bigSep_congr fun k _ => ?_)
    show slotAny rM (src k.rev c) k.rev.rev = _
    rw [src_rev, Fin.rev_rev]
  iapply (Entails.of_eq e); iexact Hp

/-! ## Filling a slot and sending it -/

/-- The two staged arguments, held. -/
def args : sProp 𝕄 :=
  iprop((((c : Thread nD τ).loc cc0_stg0_0) ↦{fullShare} xstg m ρ c) ∗ (((c : Thread nD τ).loc cc0_stg1_0) ↦{fullShare} wstg m ρ c))

theorem slot_setOn (M : Memref sig .tc .vmem S7x128x1024 .bf16) (k : Fin 7) : M.view.setOn (slotR k).toLoadRect.set ⊆ (slotM M k).view.set := by
  rw [slot_set, View.set_slice]; exact Finset.Subset.refl _
theorem slot_setOn_univ (M : Memref sig .tc .vmem S7x128x1024 .bf16) (k : Fin 7) : (M.access (slotR k)).setOn Finset.univ ⊆ (slotM M k).view.set := by
  rw [slot_set, View.setOn_univ]

/-- Loading rows of `x` and the whole of `w`. -/
theorem step_args (off : Fin 2 → Nat) (h : ∀ a, off a + S128x128.size a ≤ S1024x128.size a)
    {hx : xM.view.LoadsAt (Rect.unit (s := S1024x128) off S128x128.size h).toLoadRect} {hw : wM.view.LoadsAt w0.toLoadRect}
    {α : Type} {Q : α → sProp 𝕄} {kk : Vec F S128x128 .f32 → Vec F S128x1024 .f32 → Prog (TpuEff nD τ sig (Elt F) Λ₀ .tc) α} :
    args m ρ c ⊢ iprop((args m ρ c -∗ run c (kk (rowsAt off h (xstg m ρ c)) (wholeW (wstg m ρ c))) Q)
      -∗ run c (.op (.load xM (Rect.unit (s := S1024x128) off S128x128.size h).toLoadRect hx) fun x => .op (.load wM w0.toLoadRect hw) fun w => kk x w) Q) := by
  unfold args
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx]; · iexact Hx
  iexact Hw

/-- Filling slot `k`. -/
theorem step_fill (k : Fin 7) {hx : xM.view.LoadsAt (Rect.unit (s := S1024x128) (k0_off1 c (BitVec.ofNat 32 (1 + k.val))) S128x128.size (k0_off1_inb c k)).toLoadRect}
    {hw : wM.view.LoadsAt w0.toLoadRect} {hl : sM.view.LoadsAt (slotR k).toLoadRect} {hst : (sM.access (slotR k)).Stores Finset.univ}
    {hm : (Finset.univ : Finset (slotR k).shape.Idx) = Finset.univ ∨ ∀ a, (slotR k).stride a = 1}
    (v : Vec F S128x128 .f32 → Vec F S128x1024 .f32 → Vec F S1x128x1024 .bf16) (hv : v = k0_pay1)
    {α : Type} {Q : α → sProp 𝕄} {kk : PUnit → Prog (TpuEff nD τ sig (Elt F) Λ₀ .tc) α} :
    iprop(args m ρ c ∗ slotAny sM c k)
      ⊢ iprop(((args m ρ c ∗ filled m ρ c k) -∗ run c (kk ⟨⟩) Q)
          -∗ run c (.op (.load xM (Rect.unit (s := S1024x128) (k0_off1 c (BitVec.ofNat 32 (1 + k.val))) S128x128.size (k0_off1_inb c k)).toLoadRect hx) fun x =>
              .op (.load wM w0.toLoadRect hw) fun w => .op (.load sM (slotR k).toLoadRect hl) fun _ => .op (.store sM (slotR k) (v x w) Finset.univ hst hm) kk) Q) := by
  subst hv
  unfold slotAny filled slotPts
  iintro ⟨Ha, ⟨%f, Hs⟩⟩ Hk
  iapply (step_args m ρ c _ (k0_off1_inb c k)) $$ [Ha]; · iexact Ha
  iintro Ha
  iapply (wp_load 𝒱₀ (c : Thread nD τ) none Set.univ (m := sM) (slot_setOn sM k)) $$ Hs; iintro Hs
  iapply (wp_store 𝒱₀ (c : Thread nD τ) none Set.univ (m := sM) (r := slotR k) (Mk := Finset.univ) (slot_setOn_univ sM k)) $$ Hs; iintro Hs
  iapply Hk
  isplitl [Ha]; · iexact Ha
  iexists _
  isplitr
  · ipureintro; exact slotRead_store sM k f _
  iexact Hs

/-- Before filling slot `j` and sending it: the staged arguments; the debts, the tokens, the own slots and the peers' left;
    the credit of the sends made. -/
def stB (j : ℕ) : sProp 𝕄 :=
  iprop(args m ρ c ∗ owing (F := F) c (owed 7 j 0 c)
    ∗ (bigSep (left j) fun k => iprop(dutyTok ER (kcell (peer k c, Cell.recv k)) 0 (0 : Fin 7) ∗ dutyTok ER (kcell (c, Cell.send k)) 0 (0 : Fin 7)
        ∗ slotAny rM (peer k c) k ∗ slotAny sM c k))
    ∗ bigSep (past j) fun k => cred (tallyAt (kcell (c, Cell.send k)) () N))

/-- Sending slot `k`. -/
theorem step_send (k : Fin 7) {n : Dev nD} (hn : n = peer k c) {hsc : (slotM rM k).view.ref.isScScratch = false} {hsrc : (slotM sM k).view.WordExact}
    {hdst : (slotM rM k).view.WordExact} {hsem : DmaTarget.Typed .vmem (.dma (recvS k)) (.remote (n : Thread nD τ) (slotM rM k) (.dma (sendS k)) hsc)}
    {α : Type} {Q : α → sProp 𝕄} {kk : PUnit → Prog (TpuEff nD τ sig (Elt F) Λ₀ .tc) α} :
    iprop(records m ρ K ∗ owing (F := F) c (owed 7 k.val 0 c) ∗ dutyTok ER (kcell (peer k c, Cell.recv k)) 0 (0 : Fin 7)
        ∗ dutyTok ER (kcell (c, Cell.send k)) 0 (0 : Fin 7) ∗ slotAny rM (peer k c) k ∗ filled m ρ c k)
      ⊢ iprop(((owing (F := F) c (owed 7 (k.val + 1) 0 c) ∗ cred (tallyAt (kcell (c, Cell.send k)) () N)) -∗ run c (kk ⟨⟩) Q)
          -∗ run c (.op (.enqueueDma (slotM sM k) (.remote (n : Thread nD τ) (slotM rM k) (.dma (sendS k)) hsc) (.dma (recvS k)) hsrc hdst hsem) kk) Q) := by
  subst hn
  unfold filled slotAny owing
  rw [owed_recv]
  iintro ⟨#HR, ⟨%W, HO⟩, Htr, Hts, ⟨%fd, Hd⟩, ⟨%fs, %hfs, Hs⟩⟩ Hk
  ihave H1 := (records_at m ρ K (c, Cell.send k)) $$ HR
  ihave H2 := (records_at m ρ K (peer k c, Cell.recv k)) $$ HR
  icases H1 with ⟨#HI1, #Hr1⟩
  icases H2 with ⟨#HI2, #Hr2⟩
  unfold slotPts
  iapply (Rounds.wp_send_pointsTo 𝒱₀ ER (Rd m ρ) (c : Thread nD τ) none (κ₁ := K (c, Cell.send k)) (κ₂ := K (peer k c, Cell.recv k))
      (r₁ := 0) (r₂ := 0) (d₁ := 0) (d₂ := 0) (fd := fd) (fs := fs) (W := W)
      (by rw [duties_kcell m ρ (c, Cell.send k)]; exact Finset.mem_singleton_self _)
      (by rw [duties_kcell m ρ (peer k c, Cell.recv k)]; exact Finset.mem_singleton_self _)
      () () N rfl (amount_kcell m ρ (c, Cell.send k) 0) (amount_kcell m ρ (peer k c, Cell.recv k) 0) (owed 7 (k.val + 1) 0 c) rfl
      (by
        rw [payload_kcell m ρ (c, Cell.send k)]
        show _ ⊢ slotAny sM c k
        unfold slotAny slotPts
        iintro H; iexists fs; iexact H)
      (by
        rw [payload_kcell m ρ (peer k c, Cell.recv k)]
        show _ ⊢ landed m ρ (peer k c) k
        unfold landed slotPts
        rw [src_peer]
        iintro H; iexists _
        isplitr
        · ipureintro; exact (slotRead_landed sM rM k fs fd).trans hfs
        iexact H)) $$ [HO Htr Hts Hd Hs]
  · isplitr; · iexact HI1
    isplitr; · iexact HI2
    isplitl [Hs]; · iexact Hs
    isplitl [Hd]; · iexact Hd
    isplitl [HO]; · iexact HO
    isplitl [Hts]; · iexact Hts
    isplitr; · iexact Hr1
    isplitl [Htr]; · iexact Htr
    iexact Hr2
  iintro ⟨Hc, HO⟩
  iapply Hk
  isplitl [HO]; · iexists W; iexact HO
  iexact Hc

/-- Filling slot `k` and sending it. -/
theorem step_slot (k : Fin 7) {j : ℕ} (hj : j = k.val) {hx : xM.view.LoadsAt (Rect.unit (s := S1024x128) (k0_off1 c (BitVec.ofNat 32 (1 + k.val))) S128x128.size (k0_off1_inb c k)).toLoadRect}
    {hw : wM.view.LoadsAt w0.toLoadRect} {hl : sM.view.LoadsAt (slotR k).toLoadRect} {hst : (sM.access (slotR k)).Stores Finset.univ}
    {hm : (Finset.univ : Finset (slotR k).shape.Idx) = Finset.univ ∨ ∀ a, (slotR k).stride a = 1}
    (v : Vec F S128x128 .f32 → Vec F S128x1024 .f32 → Vec F S1x128x1024 .bf16) (hv : v = k0_pay1)
    {n : Dev nD} (hn : n = peer k c) {hsc : (slotM rM k).view.ref.isScScratch = false} {hsrc : (slotM sM k).view.WordExact}
    {hdst : (slotM rM k).view.WordExact} {hsem : DmaTarget.Typed .vmem (.dma (recvS k)) (.remote (n : Thread nD τ) (slotM rM k) (.dma (sendS k)) hsc)}
    {α : Type} {Q : α → sProp 𝕄} {kk : PUnit → Prog (TpuEff nD τ sig (Elt F) Λ₀ .tc) α} :
    iprop(facts m ρ K ∗ stB m ρ c j)
      ⊢ iprop((stB m ρ c (j + 1) -∗ run c (kk ⟨⟩) Q)
          -∗ run c (.op (.load xM (Rect.unit (s := S1024x128) (k0_off1 c (BitVec.ofNat 32 (1 + k.val))) S128x128.size (k0_off1_inb c k)).toLoadRect hx) fun x =>
              .op (.load wM w0.toLoadRect hw) fun w => .op (.load sM (slotR k).toLoadRect hl) fun _ => .op (.store sM (slotR k) (v x w) Finset.univ hst hm) fun _ =>
                .op (.enqueueDma (slotM sM k) (.remote (n : Thread nD τ) (slotM rM k) (.dma (sendS k)) hsc) (.dma (recvS k)) hsrc hdst hsem) kk) Q) := by
  subst hj
  unfold facts stB
  rw [bigSep_left, bigSep_past]
  iintro ⟨⟨#HR, -⟩, Ha, HO, ⟨⟨Htr, Hts, Hd, Hs⟩, Hrest⟩, Hcr⟩ Hk
  iapply (step_fill m ρ c k v hv) $$ [Ha Hs]
  · isplitl [Ha]; · iexact Ha
    iexact Hs
  iintro ⟨Ha, Hs⟩
  iapply (step_send m ρ K c k hn) $$ [HO Htr Hts Hd Hs]
  · isplitr; · iexact HR
    isplitl [HO]; · iexact HO
    isplitl [Htr]; · iexact Htr
    isplitl [Hts]; · iexact Hts
    isplitl [Hd]; · iexact Hd
    iexact Hs
  iintro ⟨HO, Hc⟩
  iapply Hk
  isplitl [Ha]; · iexact Ha
  isplitl [HO]; · iexact HO
  isplitl [Hrest]; · iexact Hrest
  isplitl [Hc]; · iexact Hc
  iexact Hcr

/-! ## The arrivals -/

/-- Before the arrival in slot `j`: positions and credit of the arrivals to come, the slots of those that have. -/
def stC (j : ℕ) : sProp 𝕄 :=
  iprop(owing (F := F) c (owed 7 7 0 c)
    ∗ (bigSep (left j) fun k => iprop(cred (tallyAt (kcell (c, Cell.recv k)) () N) ∗ atPos ER (kcell (c, Cell.recv k)) 0 ∅ 0))
    ∗ bigSep (past j) fun k => iprop(atPos ER (kcell (c, Cell.recv k)) 1 ∅ 0 ∗ slotAny rM c k))

/-- The payments of a counter paid once are its one payment. -/
theorem pay_one (k : Cell) (h : duty k = {0}) : (bigSep (duty k) (pay m ρ c k) : sProp 𝕄) = pay m ρ c k 0 := by rw [h]; exact bigSep_singleton

/-- A wait naming a slot is one of its counter's, for all the counter expects. -/
theorem wait_recv (k : Fin 7) {hsrc : (slotM sM k).view.WordExact} {hdst : (slotM rM k).view.WordExact} (P : PUnit → sProp 𝕄) :
    wpE (defs₀ (F := F)) 𝒱₀ (c : Thread nD τ) none Set.univ (.waitDma2 (recvS k) (slotM sM k) (slotM rM k) hsrc hdst) P
      = waitSpec (c : Thread nD τ) Set.univ (csem (Cell.recv k)) (total (Cell.recv k)) P :=
  (wpE_waitDma2_eq 𝒱₀ (c : Thread nD τ) none Set.univ P).trans (by rw [credit_recv]; rfl)
theorem wait_send (k : Fin 7) {hsrc : (slotM rM k).view.WordExact} {hdst : (slotM sM k).view.WordExact} (P : PUnit → sProp 𝕄) :
    wpE (defs₀ (F := F)) 𝒱₀ (c : Thread nD τ) none Set.univ (.waitDma2 (sendS k) (slotM rM k) (slotM sM k) hsrc hdst) P
      = waitSpec (c : Thread nD τ) Set.univ (csem (Cell.send k)) (total (Cell.send k)) P :=
  (wpE_waitDma2_eq 𝒱₀ (c : Thread nD τ) none Set.univ P).trans (by rw [credit_send]; rfl)

/-- The wait for slot `k`'s arrival and the load of what its sender put there. -/
theorem step_recv (k : Fin 7) {j : ℕ} (hj : j = k.val) {hsrc : (slotM sM k).view.WordExact} {hdst : (slotM rM k).view.WordExact} {hl : rM.view.LoadsAt (slotR k).toLoadRect}
    {α : Type} {Q : α → sProp 𝕄} {kk : Vec F S1x128x1024 .bf16 → Prog (TpuEff nD τ sig (Elt F) Λ₀ .tc) α} :
    iprop(facts m ρ K ∗ stC (F := F) c j)
      ⊢ iprop((stC (F := F) c (j + 1) -∗ run c (kk (sent m ρ (src k c) k)) Q)
          -∗ run c (.op (.waitDma2 (recvS k) (slotM sM k) (slotM rM k) hsrc hdst) fun _ => .op (.load rM (slotR k).toLoadRect hl) kk) Q) := by
  subst hj
  unfold facts stC
  rw [bigSep_left, bigSep_past]
  iintro ⟨⟨#HR, Hlev⟩, HO, ⟨⟨Hc, Ha⟩, Hrest⟩, Hpast⟩ Hk
  iapply (step_wait m ρ K c (Cell.recv k) (owed 7 7 0 c) (w := .waitDma2 (recvS k) (slotM sM k) (slotM rM k) hsrc hdst) (wait_recv c k)) $$ [Hlev HO Hc Ha]
  · isplitr; · iexact HR
    isplitl [HO]; · iexact HO
    isplitl [Hlev]; · iapply (mayWait_recv c k); iexact Hlev
    isplitl [Hc]; · iexact Hc
    iexact Ha
  iintro ⟨HO, Ha, Hp⟩
  ihave Hp := (Entails.of_eq (pay_one m ρ c (Cell.recv k) rfl)) $$ Hp
  unfold pay landed
  icases Hp with ⟨%f, %hf, Hs⟩
  unfold slotPts
  iapply (wp_load 𝒱₀ (c : Thread nD τ) none Set.univ (m := rM) (slot_setOn rM k)) $$ Hs; iintro Hs
  rw [show rM.view.readAt (Elt F) (slotR k).toLoadRect f = sent m ρ (src k c) k from hf]
  iapply Hk
  isplitl [HO]; · iexact HO
  isplitl [Hrest]; · iexact Hrest
  isplitr [Hpast]
  · isplitl [Ha]; · iexact Ha
    unfold slotAny slotPts; iexists f; iexact Hs
  iexact Hpast

/-! ## The second barrier -/

/-- Before paying from slot `j` on. -/
def stD (j : ℕ) : sProp 𝕄 :=
  iprop(owing (F := F) c (owed 7 7 j c) ∗ bigSep (left j) fun k => dutyTok ER (kcell (peer k c, Cell.bar2)) 0 k)

theorem step_bar2 (k : Fin 7) {j : ℕ} (hj : j = k.val) {n : Dev nD} (hn : n = peer k c) {α : Type} {Q : α → sProp 𝕄} {kk : PUnit → Prog (TpuEff nD τ sig (Elt F) Λ₀ .tc) α} :
    iprop(facts m ρ K ∗ stD (F := F) c j)
      ⊢ iprop((stD (F := F) c (j + 1) -∗ run c (kk ⟨⟩) Q) -∗ run c (.op (.semSignal ((n : Thread nD τ)) bar2S (BitVec.toInt 1#32)) kk) Q) := by
  subst hj
  unfold facts stD
  rw [owed_bar2, bigSep_left]
  iintro ⟨⟨#HR, -⟩, HO, Ht, Hrest⟩ Hk
  iapply (step_unit m ρ K c (peer k c, Cell.bar2) rfl k (Finset.mem_univ k) rfl hn (owed 7 7 (k.val + 1) c)) $$ [HO Ht]
  · isplitr; · iexact HR
    isplitl [HO]; · iexact HO
    isplitl [Ht]; · iexact Ht
    unfold pay; dsimp only; iempintro
  iintro HO
  iapply Hk
  isplitl [HO]; · iexact HO
  iexact Hrest

/-! ## The sends' completions -/

/-- Before slot `j`'s: as for the arrivals, with nothing owed. -/
def stE (j : ℕ) : sProp 𝕄 :=
  iprop(owing (F := F) c 0
    ∗ (bigSep (left j) fun k => iprop(cred (tallyAt (kcell (c, Cell.send k)) () N) ∗ atPos ER (kcell (c, Cell.send k)) 0 ∅ 0))
    ∗ bigSep (past j) fun k => iprop(atPos ER (kcell (c, Cell.send k)) 1 ∅ 0 ∗ slotAny sM c k))

theorem step_sent (k : Fin 7) {j : ℕ} (hj : j = k.val) {hsrc : (slotM rM k).view.WordExact} {hdst : (slotM sM k).view.WordExact}
    {α : Type} {Q : α → sProp 𝕄} {kk : PUnit → Prog (TpuEff nD τ sig (Elt F) Λ₀ .tc) α} :
    iprop(facts m ρ K ∗ stE (F := F) c j)
      ⊢ iprop((stE (F := F) c (j + 1) -∗ run c (kk ⟨⟩) Q) -∗ run c (.op (.waitDma2 (sendS k) (slotM rM k) (slotM sM k) hsrc hdst) kk) Q) := by
  subst hj
  unfold facts stE
  rw [bigSep_left, bigSep_past]
  iintro ⟨⟨#HR, -⟩, HO, ⟨⟨Hc, Ha⟩, Hrest⟩, Hpast⟩ Hk
  iapply (step_wait m ρ K c (Cell.send k) 0 (w := .waitDma2 (sendS k) (slotM rM k) (slotM sM k) hsrc hdst) (wait_send c k)) $$ [HO Hc Ha]
  · isplitr; · iexact HR
    isplitl [HO]; · iexact HO
    isplitr; · rw [MayWait_zero]; iempintro
    isplitl [Hc]; · iexact Hc
    iexact Ha
  iintro ⟨HO, Ha, Hp⟩
  ihave Hp := (Entails.of_eq (pay_one m ρ c (Cell.send k) rfl)) $$ Hp
  unfold pay
  iapply Hk
  isplitl [HO]; · iexact HO
  isplitl [Hrest]; · iexact Hrest
  isplitr [Hpast]
  · isplitl [Ha]; · iexact Ha
    iexact Hp
  iexact Hpast

/-- The wait on the second barrier. -/
theorem step_bar2_wait {α : Type} {Q : α → sProp 𝕄} {kk : PUnit → Prog (TpuEff nD τ sig (Elt F) Λ₀ .tc) α} :
    iprop(facts m ρ K ∗ owing (F := F) c 0 ∗ cred (tallyAt (kcell (c, Cell.bar2)) () 7) ∗ atPos ER (kcell (c, Cell.bar2)) 0 ∅ 0)
      ⊢ iprop(((owing (F := F) c 0 ∗ atPos ER (kcell (c, Cell.bar2)) 1 ∅ 0) -∗ run c (kk ⟨⟩) Q) -∗ run c (.op (.semWait bar2S (BitVec.toInt 7#32)) kk) Q) := by
  unfold facts
  iintro ⟨⟨#HR, -⟩, HO, Hc, Ha⟩ Hk
  iapply (step_wait m ρ K c Cell.bar2 0 (wpE_semWait_eq 𝒱₀ (c : Thread nD τ) none Set.univ)) $$ [HO Hc Ha]
  · isplitr; · iexact HR
    isplitl [HO]; · iexact HO
    isplitr; · rw [MayWait_zero]; iempintro
    isplitl [Hc]; · iexact Hc
    iexact Ha
  iintro ⟨HO, Ha, -⟩
  iapply Hk
  isplitl [HO]; · iexact HO
  iexact Ha

/-- A counter past its round, closed: its value is zero again; -/
theorem close_one (k : Cell) : iprop(facts m ρ K ∗ atPos ER (kcell (c, k)) 1 ∅ 0) ⊢ iprop(|={Set.univ}=> semVal (kcell (c, k)) 0) := by
  unfold facts
  iintro ⟨⟨#HR, -⟩, Ha⟩
  ihave Hx := (records_at m ρ K (c, k)) $$ HR
  icases Hx with ⟨#HI, -⟩
  iapply (Rounds.cell_close ER (Rd m ρ) (Set.mem_univ (K (c, k))) (fun h => h) (R := 1) (duties_later m ρ (kcell (c, k))))
  isplitr; · iexact HI
  iexact Ha

/-- and so with all of a device's. -/
theorem close_all :
    iprop(facts m ρ K ∗ bigSep Finset.univ fun k : Cell => atPos ER (kcell (c, k)) 1 ∅ 0)
      ⊢ iprop(|={Set.univ}=> bigSep Finset.univ fun k : Cell => semVal (kcell (c, k)) 0) := by
  refine BIBase.Entails.trans ?_ (bigSep_fupd (E := Set.univ) Finset.univ fun k : Cell => (semVal (kcell (c, k)) 0 : sProp 𝕄))
  refine (sep_mono_left (BI.bigSep_of_persistent (Finset.univ : Finset Cell) (facts m ρ K))).trans ?_
  rw [← bigSep_sep']
  exact bigSep_mono fun k _ => close_one m ρ K c k

end Steps

end Cert.Exchange

end
-- ==== Proof.Body.lean ====
/-
# One device's body

What a device starts its body with, what it ends it with, and the body run from the one to the other by the steps, in
the program's order.
-/
module

public import proofs.«01_k».proof.Proof.Steps

@[expose] public section

noncomputable section

namespace Cert.Exchange

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The own rows' product and the seven arrivals added up in slot order, and the sum's positive part. -/
def addUp (x : Vec F S128x128 .f32) (w : Vec F S128x1024 .f32) (s : Fin 7 → Vec F S1x128x1024 .bf16) : Vec F S128x1024 .f32 :=
  k0_pay14 (k0_pay13 (k0_pay12 (k0_pay11 (k0_pay10 x w (s 0)) (s 1) (s 2)) (s 3) (s 4) (s 5)) (s 6))

/-- What device `c` leaves in its result's staging buffer. -/
def outAt (c : Dev nD) : (cc0_stg2_0 : Ref sig .tc).ty.Contents (Elt F) :=
  addUp (rowsAt (k0_off2 c) (k0_off2_inb c) (xstg m ρ c)) (wholeW (wstg m ρ c)) fun k => sent m ρ (src k c) k

/-! ## What the body starts with and ends with -/

/-- A device's share of the counters: their invariants, its own counters' positions, and the tokens of the payments it
    makes — to each slot's peer one on each barrier and one on the arrival counter, and its own sends'. -/
def ghost (K : Dev nD × Cell → ℕ) (c : Dev nD) : sProp 𝕄 :=
  iprop(records m ρ K ∗ (bigSep Finset.univ fun k : Cell => atPos ER (kcell (c, k)) 0 ∅ 0)
    ∗ (bigSep Finset.univ fun k : Fin 7 => dutyTok ER (kcell (peer k c, Cell.bar)) 0 k)
    ∗ (bigSep Finset.univ fun k : Fin 7 => dutyTok ER (kcell (peer k c, Cell.bar2)) 0 k)
    ∗ (bigSep Finset.univ fun k : Fin 7 => dutyTok ER (kcell (c, Cell.send k)) 0 (0 : Fin 7))
    ∗ bigSep Finset.univ fun k : Fin 7 => dutyTok ER (kcell (peer k c, Cell.recv k)) 0 (0 : Fin 7))

/-- With it: the credit of its own counters that others pay, and the levels. -/
def start (c : Dev nD) : sProp 𝕄 :=
  iprop((∃ K, ghost m ρ K c) ∗ cred (tallyAt (kcell (c, Cell.bar)) () 7) ∗ cred (tallyAt (kcell (c, Cell.bar2)) () 7)
    ∗ (bigSep Finset.univ fun k : Fin 7 => cred (tallyAt (kcell (c, Cell.recv k)) () N)) ∗ levAts L lv)

/-- The two exchange buffers, at contents nothing is said of. -/
def buffers (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body; and after it, with every counter at zero again. -/
def Φ₀ (c : Dev nD) : sProp 𝕄 := iprop(start m ρ c ∗ buffers c)
def Φ₁ (c : Dev nD) : sProp 𝕄 := iprop(buffers c ∗ bigSep Finset.univ fun k : Cell => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owed 0 0 0 c
    | ⟨_ + 1, _⟩ => 0

/-! ## Regrouping -/

/-- Something for each counter, kind by kind. -/
theorem cells_eq (Φ : Cell → sProp 𝕄) :
    bigSep Finset.univ Φ = iprop(Φ Cell.bar ∗ Φ Cell.bar2 ∗ (bigSep Finset.univ fun k => Φ (Cell.send k)) ∗ bigSep Finset.univ fun k => Φ (Cell.recv k)) := by
  rw [bigSep_univ_sum, bigSep_univ_sum, bigSep_univ_sum, bigSep_univ_of_subsingleton (), bigSep_univ_of_subsingleton ()]
  rfl

/-- A whole buffer as held, under either name of its elements. -/
theorem whole_pts (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

/-- An exchange buffer is its seven slots; -/
theorem slots_of_send (c : Dev nD) :
    iprop(∃ f : Buf (Elt F) ((c : Thread nD τ).loc cc0_scratch0), ((c : Thread nD τ).loc cc0_scratch0) ↦{fullShare} f)
      ⊢ (bigSep Finset.univ (slotAny sM c) : sProp 𝕄) := by
  iintro ⟨%f, H⟩
  ihave H := (Entails.of_eq ((whole_pts c cc0_scratch0 f).symm.trans (slots_split sM c f))) $$ H
  have h : (bigSep Finset.univ fun k => slotPts sM c k f : sProp 𝕄) ⊢ bigSep Finset.univ (slotAny sM c) :=
    bigSep_mono fun k _ => show slotPts sM c k f ⊢ slotAny sM c k from by unfold slotAny; iintro H; iexists f; iexact H
  iapply h; iexact H
theorem slots_of_recv (c : Dev nD) :
    iprop(∃ f : Buf (Elt F) ((c : Thread nD τ).loc cc0_scratch1), ((c : Thread nD τ).loc cc0_scratch1) ↦{fullShare} f)
      ⊢ (bigSep Finset.univ (slotAny rM c) : sProp 𝕄) := by
  iintro ⟨%f, H⟩
  ihave H := (Entails.of_eq ((whole_pts c cc0_scratch1 f).symm.trans (slots_split rM c f))) $$ H
  have h : (bigSep Finset.univ fun k => slotPts rM c k f : sProp 𝕄) ⊢ bigSep Finset.univ (slotAny rM c) :=
    bigSep_mono fun k _ => show slotPts rM c k f ⊢ slotAny rM c k from by unfold slotAny; iintro H; iexists f; iexact H
  iapply h; iexact H
/-- and the seven slots are the buffer. -/
theorem send_of_slots (c : Dev nD) (f₀ : Buf (Elt F) ((c : Thread nD τ).loc cc0_scratch0)) :
    (bigSep Finset.univ (slotAny sM c) : sProp 𝕄)
      ⊢ iprop(∃ f : Buf (Elt F) ((c : Thread nD τ).loc cc0_scratch0), ((c : Thread nD τ).loc cc0_scratch0) ↦{fullShare} f) := by
  refine (slots_join sM c f₀).trans ?_
  iintro ⟨%g, H⟩
  iexists g
  iapply (Entails.of_eq (whole_pts c cc0_scratch0 g)); iexact H
theorem recv_of_slots (c : Dev nD) (f₀ : Buf (Elt F) ((c : Thread nD τ).loc cc0_scratch1)) :
    (bigSep Finset.univ (slotAny rM c) : sProp 𝕄)
      ⊢ iprop(∃ f : Buf (Elt F) ((c : Thread nD τ).loc cc0_scratch1), ((c : Thread nD τ).loc cc0_scratch1) ↦{fullShare} f) := by
  refine (slots_join rM c f₀).trans ?_
  iintro ⟨%g, H⟩
  iexists g
  iapply (Entails.of_eq (whole_pts c cc0_scratch1 g)); iexact H

section Body

variable (K : Dev nD × Cell → ℕ) (c : Dev nD)

/-! ## Into and out of each stretch -/

theorem stA_zero :
    iprop(owing (F := F) c (owed 0 0 0 c) ∗ (bigSep Finset.univ fun k : Fin 7 => dutyTok ER (kcell (peer k c, Cell.bar)) 0 k) ∗ bigSep Finset.univ (slotAny rM c))
      ⊢ stA (F := F) c 0 := by
  unfold stA
  rw [left_zero, bigSep_sep', bigSep_univ_equiv (Fin.revPerm (n := 7)) (slotAny (F := F) rM c)]
  exact BI.Entails.refl _
theorem stA_seven {j : ℕ} (hj : j = 7) : stA (F := F) c j ⊢ owing (F := F) c (owed 7 0 0 c) := by
  subst hj
  unfold stA
  iintro ⟨H, -⟩; iexact H

theorem stB_seven {j : ℕ} (hj : j = 7) : stB m ρ c j ⊢ iprop(args m ρ c ∗ owing (F := F) c (owed 7 7 0 c) ∗ bigSep Finset.univ fun k => cred (tallyAt (kcell (c, Cell.send k)) () N)) := by
  subst hj
  unfold stB
  rw [past_seven]
  iintro ⟨Ha, HO, -, Hc⟩
  isplitl [Ha]; · iexact Ha
  isplitl [HO]; · iexact HO
  iexact Hc

theorem stC_zero :
    iprop(owing (F := F) c (owed 7 7 0 c) ∗ (bigSep Finset.univ fun k : Fin 7 => cred (tallyAt (kcell (c, Cell.recv k)) () N))
        ∗ bigSep Finset.univ fun k : Fin 7 => atPos ER (kcell (c, Cell.recv k)) 0 ∅ 0)
      ⊢ stC (F := F) c 0 := by
  unfold stC
  rw [left_zero, past_zero, bigSep_sep', bigSep_empty]
  iintro ⟨HO, Hc, Ha⟩
  isplitl [HO]; · iexact HO
  isplitl [Hc Ha]
  · isplitl [Hc]; · iexact Hc
    iexact Ha
  iempintro
theorem stC_seven {j : ℕ} (hj : j = 7) : stC (F := F) c j
    ⊢ iprop(owing (F := F) c (owed 7 7 0 c) ∗ (bigSep Finset.univ fun k : Fin 7 => atPos ER (kcell (c, Cell.recv k)) 1 ∅ 0) ∗ bigSep Finset.univ (slotAny rM c)) := by
  subst hj
  unfold stC
  rw [past_seven, left_seven, bigSep_empty, bigSep_sep']
  iintro ⟨HO, -, H⟩
  isplitl [HO]; · iexact HO
  iexact H

theorem stD_zero : iprop(owing (F := F) c (owed 7 7 0 c) ∗ bigSep Finset.univ fun k : Fin 7 => dutyTok ER (kcell (peer k c, Cell.bar2)) 0 k) ⊢ stD (F := F) c 0 := by
  unfold stD; rw [left_zero]
theorem stD_seven {j : ℕ} (hj : j = 7) : stD (F := F) c j ⊢ owing (F := F) c 0 := by
  subst hj
  unfold stD
  rw [owed_none]
  iintro ⟨H, -⟩; iexact H

theorem stE_zero :
    iprop(owing (F := F) c 0 ∗ (bigSep Finset.univ fun k : Fin 7 => cred (tallyAt (kcell (c, Cell.send k)) () N))
        ∗ bigSep Finset.univ fun k : Fin 7 => atPos ER (kcell (c, Cell.send k)) 0 ∅ 0)
      ⊢ stE (F := F) c 0 := by
  unfold stE
  rw [left_zero, past_zero, bigSep_sep', bigSep_empty]
  iintro ⟨HO, Hc, Ha⟩
  isplitl [HO]; · iexact HO
  isplitl [Hc Ha]
  · isplitl [Hc]; · iexact Hc
    iexact Ha
  iempintro
theorem stE_seven {j : ℕ} (hj : j = 7) : stE (F := F) c j
    ⊢ iprop(owing (F := F) c 0 ∗ (bigSep Finset.univ fun k : Fin 7 => atPos ER (kcell (c, Cell.send k)) 1 ∅ 0) ∗ bigSep Finset.univ (slotAny sM c)) := by
  subst hj
  unfold stE
  rw [past_seven, left_seven, bigSep_empty, bigSep_sep']
  iintro ⟨HO, -, H⟩
  isplitl [HO]; · iexact HO
  iexact H

/-- The first slot is filled before the first barrier's wait and sent after it. -/
theorem step_first {hx : xM.view.LoadsAt (Rect.unit (s := S1024x128) (k0_off1 c (BitVec.ofNat 32 (1 + (0 : Fin 7).val))) S128x128.size (k0_off1_inb c 0)).toLoadRect}
    {hw : wM.view.LoadsAt w0.toLoadRect} {hl : sM.view.LoadsAt (slotR 0).toLoadRect} {hst : (sM.access (slotR 0)).Stores Finset.univ}
    {hm : (Finset.univ : Finset (slotR 0).shape.Idx) = Finset.univ ∨ ∀ a, (slotR 0).stride a = 1}
    {n : Dev nD} (hn : n = peer 0 c) {hsc : (slotM rM 0).view.ref.isScScratch = false} {hsrc : (slotM sM 0).view.WordExact}
    {hdst : (slotM rM 0).view.WordExact} {hsem : DmaTarget.Typed .vmem (.dma (recvS 0)) (.remote (n : Thread nD τ) (slotM rM 0) (.dma (sendS 0)) hsc)}
    {α : Type} {Q : α → sProp 𝕄} {kk : PUnit → Prog (TpuEff nD τ sig (Elt F) Λ₀ .tc) α} :
    iprop(facts m ρ K ∗ args m ρ c ∗ owing (F := F) c (owed 7 0 0 c) ∗ cred (tallyAt (kcell (c, Cell.bar)) () 7) ∗ atPos ER (kcell (c, Cell.bar)) 0 ∅ 0
        ∗ bigSep Finset.univ (slotAny sM c)
        ∗ (bigSep Finset.univ fun k : Fin 7 => dutyTok ER (kcell (c, Cell.send k)) 0 (0 : Fin 7))
        ∗ bigSep Finset.univ fun k : Fin 7 => dutyTok ER (kcell (peer k c, Cell.recv k)) 0 (0 : Fin 7))
      ⊢ iprop(((stB m ρ c 1 ∗ atPos ER (kcell (c, Cell.bar)) 1 ∅ 0) -∗ run c (kk ⟨⟩) Q)
          -∗ run c (.op (.load xM (Rect.unit (s := S1024x128) (k0_off1 c (BitVec.ofNat 32 (1 + (0 : Fin 7).val))) S128x128.size (k0_off1_inb c 0)).toLoadRect hx) fun x =>
              .op (.load wM w0.toLoadRect hw) fun w => .op (.load sM (slotR 0).toLoadRect hl) fun _ => .op (.store sM (slotR 0) (k0_pay1 x w) Finset.univ hst hm) fun _ =>
                .op (.semWait barS (BitVec.toInt 7#32)) fun _ =>
                  .op (.enqueueDma (slotM sM 0) (.remote (n : Thread nD τ) (slotM rM 0) (.dma (sendS 0)) hsc) (.dma (recvS 0)) hsrc hdst hsem) kk) Q) := by
  have hd : (bigSep Finset.univ fun k => slotAny (F := F) rM (peer k c) k) = iprop(slotAny rM (peer 0 c) 0 ∗ bigSep (left 1) fun k => slotAny rM (peer k c) k) := by
    rw [← left_zero, show left 0 = left (0 : Fin 7).val from rfl]; exact bigSep_left (fun k => slotAny (F := F) rM (peer k c) k) 0
  rw [← left_zero, show left 0 = left (0 : Fin 7).val from rfl, bigSep_left (slotAny (F := F) sM c) 0, bigSep_left (fun k : Fin 7 => dutyTok ER (kcell (c, Cell.send k)) 0 (0 : Fin 7)) 0,
    bigSep_left (fun k : Fin 7 => dutyTok ER (kcell (peer k c, Cell.recv k)) 0 (0 : Fin 7)) 0]
  iintro ⟨#HF, Hargs, HO, Hc, Hat, ⟨Hs0, Hs⟩, ⟨Hts0, Hts⟩, ⟨Htr0, Htr⟩⟩ Hk
  iapply (step_fill m ρ c 0 k0_pay1 rfl) $$ [Hargs Hs0]
  · isplitl [Hargs]; · iexact Hargs
    iexact Hs0
  iintro ⟨Hargs, Hs0⟩
  iapply (step_bar_wait m ρ K c) $$ [HO Hc Hat]
  · isplitr; · iexact HF
    isplitl [HO]; · iexact HO
    isplitl [Hc]; · iexact Hc
    iexact Hat
  iintro ⟨HO, Hat, Hd⟩
  ihave Hd := (Entails.of_eq hd) $$ Hd
  icases Hd with ⟨Hd0, Hd⟩
  iapply (step_send m ρ K c 0 hn) $$ [HO Htr0 Hts0 Hd0 Hs0]
  · isplitr; · unfold facts; icases HF with ⟨#HR, -⟩; iexact HR
    isplitl [HO]; · iexact HO
    isplitl [Htr0]; · iexact Htr0
    isplitl [Hts0]; · iexact Hts0
    isplitl [Hd0]; · iexact Hd0
    iexact Hs0
  iintro ⟨HO, Hcs⟩
  iapply Hk
  isplitr [Hat]
  · unfold stB
    isplitl [Hargs]; · iexact Hargs
    isplitl [HO]; · iexact HO
    isplitl [Htr Hts Hd Hs]
    · rw [bigSep_sep', bigSep_sep', bigSep_sep']
      isplitl [Htr]; · iexact Htr
      isplitl [Hts]; · iexact Hts
      isplitl [Hd]; · iexact Hd
      iexact Hs
    rw [show (1 : ℕ) = (0 : Fin 7).val + 1 from rfl, bigSep_past, show ((0 : Fin 7).val) = 0 from rfl, past_zero, bigSep_empty]
    isplitl [Hcs]; · iexact Hcs
    iempintro
  iexact Hat

/-! ## The body -/

theorem out_write (f w : (cc0_stg2_0 : Ref sig .tc).ty.Contents (Elt F)) : ((oM : Memref sig .tc .vmem S128x1024 .f32).access w0 : View sig .tc _ _ _).write (Elt F) f w Finset.univ = w :=
  Memref.write_access_unit_zero_univ (Elt F) cc0_stg2_0 (funext fun a => by fin_cases a <;> rfl) _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

set_option maxRecDepth 10000 in
set_option maxHeartbeats 2000000 in
/-- The body, run in the program's order. -/
theorem sound_body (c : Dev nD) :
    bodyPre m ρ c
      ⊢ run c (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) cc0_scratch2 cc0_scratch3 cc0_scoped0) (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre Φ₀ start ghost buffers
  iintro ⟨⟨⟨⟨%K, #HR, Hat, Ht1, Ht2, Hts, Htr⟩, Hc1, Hc2, Hcr, #Hlev⟩, Hs, Hr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  subst hx
  have hw : g1 = wstg m ρ c := by rw [hg1]; unfold Dat.before; rw [if_pos (fetch0_1 t0_0)]; rfl
  subst hw
  icases Hs with ⟨%fs, Hs⟩
  icases Hr with ⟨%fr, Hr⟩
  ihave Hs := (slots_of_send c) $$ [Hs]; · iexists fs; iexact Hs
  ihave Hr := (slots_of_recv c) $$ [Hr]; · iexists fr; iexact Hr
  ihave Hat := (Entails.of_eq (cells_eq (F := F) fun k => atPos ER (kcell (c, k)) 0 ∅ 0)) $$ Hat
  icases Hat with ⟨HatB, HatB2, HatS, HatR⟩
  ihave #HF : facts m ρ K $$ []
  · unfold facts; isplitr; · iexact HR
    iexact Hlev
  unfold Dat.owesAt Pipeline.owesWithin
  icases Ho with ⟨%W, %hW, HO⟩
  rw [show (dats m ρ 0 c).owed t0_0.castSucc = owed 0 0 0 c from rfl]
  -- the first barrier's payments
  ihave HA := (stA_zero (F := F) c) $$ [HO Ht1 Hr]
  · isplitl [HO]; · unfold owing; iexists W; iexact HO
    isplitl [Ht1]; · iexact Ht1
    iexact Hr
  ihave HA : iprop(facts m ρ K ∗ stA (F := F) c 0) $$ [HA]
  · isplitr; · iexact HF
    iexact HA
  iapply (keep (step_bar m ρ K c 0 (j := 0) rfl (Fin.ext (k0_dev1_eq c)))) $$ HA; iintro HA
  iapply (keep (step_bar m ρ K c 1 (j := 1) rfl (Fin.ext (k0_dev2_eq c)))) $$ HA; iintro HA
  iapply (keep (step_bar m ρ K c 2 (j := 2) rfl (Fin.ext (k0_dev3_eq c)))) $$ HA; iintro HA
  iapply (keep (step_bar m ρ K c 3 (j := 3) rfl (Fin.ext (k0_dev4_eq c)))) $$ HA; iintro HA
  iapply (keep (step_bar m ρ K c 4 (j := 4) rfl (Fin.ext (k0_dev5_eq c)))) $$ HA; iintro HA
  iapply (keep (step_bar m ρ K c 5 (j := 5) rfl (Fin.ext (k0_dev6_eq c)))) $$ HA; iintro HA
  iapply (keep (step_bar m ρ K c 6 (j := 6) rfl (Fin.ext (k0_dev7_eq c)))) $$ HA; iintro HA
  icases HA with ⟨-, HA⟩
  ihave HO := (stA_seven (F := F) c rfl) $$ HA
  -- the first slot, around the wait on the first barrier
  iapply (step_first m ρ K c (Fin.ext (k0_dev8_eq c))) $$ [Hx Hw HO Hc1 HatB Hs Hts Htr]
  · isplitr; · iexact HF
    isplitl [Hx Hw]
    · unfold args
      isplitl [Hx]; · iexact Hx
      iexact Hw
    isplitl [HO]; · iexact HO
    isplitl [Hc1]; · iexact Hc1
    isplitl [HatB]; · iexact HatB
    isplitl [Hs]; · iexact Hs
    isplitl [Hts]; · iexact Hts
    iexact Htr
  iintro ⟨HB, HatB⟩
  -- the other slots
  ihave HB : iprop(facts m ρ K ∗ stB m ρ c 1) $$ [HB]
  · isplitr; · iexact HF
    iexact HB
  iapply (keep (step_slot m ρ K c 1 (j := 1) rfl k0_pay2 rfl (Fin.ext (k0_dev9_eq c)))) $$ HB; iintro HB
  iapply (keep (step_slot m ρ K c 2 (j := 2) rfl (fun x w => k0_pay4 (k0_pay3 x w)) rfl (Fin.ext (k0_dev10_eq c)))) $$ HB; iintro HB
  iapply (keep (step_slot m ρ K c 3 (j := 3) rfl k0_pay5 rfl (Fin.ext (k0_dev11_eq c)))) $$ HB; iintro HB
  iapply (keep (step_slot m ρ K c 4 (j := 4) rfl k0_pay6 rfl (Fin.ext (k0_dev12_eq c)))) $$ HB; iintro HB
  iapply (keep (step_slot m ρ K c 5 (j := 5) rfl (fun x w => k0_pay8 (k0_pay7 x w)) rfl (Fin.ext (k0_dev13_eq c)))) $$ HB; iintro HB
  iapply (keep (step_slot m ρ K c 6 (j := 6) rfl k0_pay9 rfl (Fin.ext (k0_dev14_eq c)))) $$ HB; iintro HB
  icases HB with ⟨-, HB⟩
  ihave HB := (stB_seven m ρ c rfl) $$ HB
  icases HB with ⟨Hargs, HO, Hcs⟩
  -- the own rows
  iapply (step_args m ρ c (k0_off2 c) (k0_off2_inb c)) $$ Hargs; iintro Hargs
  -- the arrivals
  ihave HC := (stC_zero (F := F) c) $$ [HO Hcr HatR]
  · isplitl [HO]; · iexact HO
    isplitl [Hcr]; · iexact Hcr
    iexact HatR
  ihave HC : iprop(facts m ρ K ∗ stC (F := F) c 0) $$ [HC]
  · isplitr; · iexact HF
    iexact HC
  iapply (keep (step_recv m ρ K c 0 (j := 0) rfl)) $$ HC; iintro HC
  iapply (keep (step_recv m ρ K c 1 (j := 1) rfl)) $$ HC; iintro HC
  iapply (keep (step_recv m ρ K c 2 (j := 2) rfl)) $$ HC; iintro HC
  iapply (keep (step_recv m ρ K c 3 (j := 3) rfl)) $$ HC; iintro HC
  iapply (keep (step_recv m ρ K c 4 (j := 4) rfl)) $$ HC; iintro HC
  iapply (keep (step_recv m ρ K c 5 (j := 5) rfl)) $$ HC; iintro HC
  iapply (keep (step_recv m ρ K c 6 (j := 6) rfl)) $$ HC; iintro HC
  icases HC with ⟨-, HC⟩
  ihave HC := (stC_seven (F := F) c rfl) $$ HC
  icases HC with ⟨HO, HatR, Hr⟩
  -- the second barrier's payments
  ihave HD := (stD_zero (F := F) c) $$ [HO Ht2]
  · isplitl [HO]; · iexact HO
    iexact Ht2
  ihave HD : iprop(facts m ρ K ∗ stD (F := F) c 0) $$ [HD]
  · isplitr; · iexact HF
    iexact HD
  iapply (keep (step_bar2 m ρ K c 0 (j := 0) rfl (Fin.ext (k0_dev15_eq c)))) $$ HD; iintro HD
  iapply (keep (step_bar2 m ρ K c 1 (j := 1) rfl (Fin.ext (k0_dev16_eq c)))) $$ HD; iintro HD
  iapply (keep (step_bar2 m ρ K c 2 (j := 2) rfl (Fin.ext (k0_dev17_eq c)))) $$ HD; iintro HD
  iapply (keep (step_bar2 m ρ K c 3 (j := 3) rfl (Fin.ext (k0_dev18_eq c)))) $$ HD; iintro HD
  iapply (keep (step_bar2 m ρ K c 4 (j := 4) rfl (Fin.ext (k0_dev19_eq c)))) $$ HD; iintro HD
  iapply (keep (step_bar2 m ρ K c 5 (j := 5) rfl (Fin.ext (k0_dev20_eq c)))) $$ HD; iintro HD
  iapply (keep (step_bar2 m ρ K c 6 (j := 6) rfl (Fin.ext (k0_dev21_eq c)))) $$ HD; iintro HD
  icases HD with ⟨-, HD⟩
  ihave HO := (stD_seven (F := F) c rfl) $$ HD
  -- the result
  iapply (wp_load 𝒱₀ (c : Thread nD τ) none Set.univ (m := oM) (Finset.subset_univ _)) $$ Hout; iintro Hout
  iapply (wp_store 𝒱₀ (c : Thread nD τ) none Set.univ (m := oM) (r := w0) (Mk := Finset.univ) (Finset.subset_univ _)) $$ Hout; iintro Hout
  rw [out_write]
  -- the sends' completions
  ihave HE := (stE_zero (F := F) c) $$ [HO Hcs HatS]
  · isplitl [HO]; · iexact HO
    isplitl [Hcs]; · iexact Hcs
    iexact HatS
  ihave HE : iprop(facts m ρ K ∗ stE (F := F) c 0) $$ [HE]
  · isplitr; · iexact HF
    iexact HE
  iapply (keep (step_sent m ρ K c 0 (j := 0) rfl)) $$ HE; iintro HE
  iapply (keep (step_sent m ρ K c 1 (j := 1) rfl)) $$ HE; iintro HE
  iapply (keep (step_sent m ρ K c 2 (j := 2) rfl)) $$ HE; iintro HE
  iapply (keep (step_sent m ρ K c 3 (j := 3) rfl)) $$ HE; iintro HE
  iapply (keep (step_sent m ρ K c 4 (j := 4) rfl)) $$ HE; iintro HE
  iapply (keep (step_sent m ρ K c 5 (j := 5) rfl)) $$ HE; iintro HE
  iapply (keep (step_sent m ρ K c 6 (j := 6) rfl)) $$ HE; iintro HE
  icases HE with ⟨-, HE⟩
  ihave HE := (stE_seven (F := F) c rfl) $$ HE
  icases HE with ⟨HO, HatS, Hs⟩
  -- the second barrier's wait
  iapply (step_bar2_wait m ρ K c) $$ [HO Hc2 HatB2]
  · isplitr; · iexact HF
    isplitl [HO]; · iexact HO
    isplitl [Hc2]; · iexact Hc2
    iexact HatB2
  iintro ⟨HO, HatB2⟩
  -- the counters close
  imod (close_all m ρ K c) $$ [HatB HatB2 HatS HatR] with Hz
  · isplitr; · iexact HF
    iapply (Entails.of_eq (cells_eq (F := F) fun k => atPos ER (kcell (c, k)) 1 ∅ 0).symm)
    isplitl [HatB]; · iexact HatB
    isplitl [HatB2]; · iexact HatB2
    isplitl [HatS]; · iexact HatS
    iexact HatR
  rw [wp_ret]; imodintro
  unfold bodyPost Φ₁ buffers Dat.owesAt Pipeline.owesWithin args owing
  icases Hargs with ⟨Hx, Hw⟩
  icases HO with ⟨%W', HO⟩
  rw [show (dats m ρ 0 c).owed t0_0.succ = 0 from rfl]
  isplitl [Hs Hr Hz]
  · isplitl [Hs Hr]
    · isplitl [Hs]; · iapply (send_of_slots c fs); iexact Hs
      iapply (recv_of_slots c fr); iexact Hr
    iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- The launch's obligation of each device's body. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 3) ∗ Φ (1 : Fin 3) ∗ Φ (2 : Fin 3)) from funext fun Φ => bigSep_W0 Φ]
  simp only [owns_whole_eq]
  exact sound_body m ρ c

end Body

end Cert.Exchange

end
-- ==== Proof.Run.lean ====
/-
# The launch

Every device's counters are opened together, their payments' tokens are dealt around the ring to the devices that pay
them, and what each device owes at launch is matched with the credit the counters' owners wait with. With the bodies, that
is a run of the whole program: it ends, every argument is unchanged, every counter is zero, and every device's result
holds what its body left.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The payments, by kind and slot -/

/-- The payments of one device's counters, and just as well those one device makes: for each slot one on each barrier
    counter, one on the send counter, one on the arrival counter. -/
abbrev Job : Type := Fin 7 ⊕ (Fin 7 ⊕ (Fin 7 ⊕ Fin 7))

/-- The counter a payment is on, which of the counter's payments it is, and the device it goes to. -/
def jobCell : Job → Cell
  | .inl _ => Cell.bar
  | .inr (.inl _) => Cell.bar2
  | .inr (.inr (.inl k)) => Cell.send k
  | .inr (.inr (.inr k)) => Cell.recv k
def jobDuty : Job → Fin 7
  | .inl k => k
  | .inr (.inl k) => k
  | .inr (.inr _) => 0
def jobTo : Job → Dev nD ≃ Dev nD
  | .inl k => around k
  | .inr (.inl k) => around k
  | .inr (.inr (.inl _)) => Equiv.refl _
  | .inr (.inr (.inr k)) => around k

theorem job_injective : Function.Injective fun j : Job => (jobCell j, jobDuty j) := by decide

def allCells : Finset (GSem nD τ sig) := Finset.univ.map ⟨kcell, kcell_injective⟩

/-- A payment of a device's counter, as its token is named. -/
def tokOf (x : Dev nD × Job) : GSem nD τ sig × ℕ × Fin 7 := (kcell (x.1, jobCell x.2), 0, jobDuty x.2)
theorem tokOf_injective : Function.Injective tokOf := by
  rintro ⟨c, j⟩ ⟨c', j'⟩ h
  have hk := kcell_injective (congrArg Prod.fst h)
  obtain rfl : c = c' := congrArg Prod.fst hk
  obtain rfl : j = j' := job_injective (Prod.ext (congrArg Prod.snd hk) (congrArg (fun x : GSem nD τ sig × ℕ × Fin 7 => x.2.2) h))
  rfl
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of a device's own counters' payments; and of the payments it makes. -/
def toks (c : Dev nD) : sProp 𝕄 := bigSep Finset.univ fun j : Job => dutyTok ER (kcell (c, jobCell j)) 0 (jobDuty j)
def payToks (c : Dev nD) : sProp 𝕄 := bigSep Finset.univ fun j : Job => dutyTok ER (kcell (jobTo j c, jobCell j)) 0 (jobDuty j)

/-- Dealt around the ring, the ones are the others. -/
theorem toks_around : (bigSep Finset.univ fun c : Dev nD => (toks c : sProp 𝕄)) = bigSep Finset.univ fun c : Dev nD => payToks c := by
  unfold toks payToks
  rw [bigSep_univ_comm, bigSep_univ_comm (fun (c : Dev nD) (j : Job) => (dutyTok ER (kcell (jobTo j c, jobCell j)) 0 (jobDuty j) : sProp 𝕄))]
  exact bigSep_congr fun j _ => bigSep_univ_equiv (jobTo j) fun c => dutyTok ER (kcell (c, jobCell j)) 0 (jobDuty j)

/-- The payments a device makes, kind by kind. -/
theorem payToks_eq (c : Dev nD) : (payToks c : sProp 𝕄)
    = iprop((bigSep Finset.univ fun k : Fin 7 => dutyTok ER (kcell (peer k c, Cell.bar)) 0 k)
      ∗ (bigSep Finset.univ fun k : Fin 7 => dutyTok ER (kcell (peer k c, Cell.bar2)) 0 k)
      ∗ (bigSep Finset.univ fun k : Fin 7 => dutyTok ER (kcell (c, Cell.send k)) 0 (0 : Fin 7))
      ∗ bigSep Finset.univ fun k : Fin 7 => dutyTok ER (kcell (peer k c, Cell.recv k)) 0 (0 : Fin 7)) := by
  unfold payToks
  rw [bigSep_univ_sum, bigSep_univ_sum, bigSep_univ_sum]
  rfl

/-! ## Opening the counters -/

/-- What the launch deals each device; and what opening all counters makes of it. -/
def G (c : Dev nD) : sProp 𝕄 :=
  iprop((bigSep Finset.univ fun k : Cell => roundState ER (Rd m ρ) (kcell (c, k)) 0)
    ∗ (bigSep Finset.univ fun k : Cell => atPos ER (kcell (c, k)) 0 ∅ 0) ∗ (bigSep Finset.univ fun k : Cell => reached ER (kcell (c, k)) 0) ∗ toks c)
def G' (c : Dev nD) : sProp 𝕄 := iprop(∃ K, ghost m ρ K c)

theorem over_cells (Φ : GSem nD τ sig → sProp 𝕄) : bigSep allCells Φ = bigSep Finset.univ fun c : Dev nD => bigSep Finset.univ fun k : Cell => Φ (kcell (c, k)) := by
  unfold allCells; rw [bigSep_map, bigSep_univ_prod]; rfl
theorem over_toks : bigSep allToks (fun x => (dutyTok ER x.1 x.2.1 x.2.2 : sProp 𝕄)) = bigSep Finset.univ fun c : Dev nD => toks c := by
  unfold allToks; rw [bigSep_map, bigSep_univ_prod]; rfl

theorem swap_inner (A B C D : sProp 𝕄) : iprop(A ∗ B ∗ C ∗ D) ⊢ iprop(A ∗ C ∗ B ∗ D) := by
  iintro ⟨H1, H2, H3, H4⟩
  isplitl [H1]; · iexact H1
  isplitl [H3]; · iexact H3
  isplitl [H2]; · iexact H2
  iexact H4

/-- The launch's allotment of rounds and tokens, device by device. -/
theorem fund_all : BI.own (ER (initOf allCells allToks)) ⊢ (|==> bigSep Finset.univ (G m ρ) : sProp 𝕄) := by
  refine (Rounds.fund ER (Rd m ρ) allCells allToks).trans (BI.bupd_mono ?_)
  rw [over_cells, over_cells, over_cells, over_toks]
  unfold G
  rw [bigSep_sep', bigSep_sep', bigSep_sep']
  exact swap_inner _ _ _ _

/-- The one counter that outlives the launch, and the launch's own, are a device's counters. -/
theorem unscoped_eq (c : Dev nD) : (unscopedSems0 c : sProp 𝕄) = semVal (kcell (c, Cell.bar)) 0 := by
  unfold unscopedSems0; rw [bigSep_eq_bigSepL_of_eq [SemLoc.reg barS] (by decide) (by decide)]; rfl
theorem counters_eq (c : Dev nD) :
    (bigSep Finset.univ fun k : Cell => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_univ_of_subsingleton (), unscoped_eq]
  rfl

/-- A device's counters opened. -/
theorem open_cells (c : Dev nD) :
    iprop((bigSep Finset.univ fun k : Cell => semVal (kcell (c, k)) 0) ∗ bigSep Finset.univ fun k : Cell => roundState ER (Rd m ρ) (kcell (c, k)) 0)
      ⊢ (|={Set.univ}=> bigSep Finset.univ fun k : Cell => iprop(∃ κ : ℕ, cellInv ER (Rd m ρ) κ (kcell (c, k))) : sProp 𝕄) := by
  rw [← bigSep_sep']
  exact (bigSep_mono fun k _ => (Rounds.body_intro ER (Rd m ρ) (kcell (c, k))).trans inv_alloc).trans (bigSep_fupd _ _)

/-- What a device holds with its counters open. -/
def opened (c : Dev nD) : sProp 𝕄 :=
  iprop((bigSep Finset.univ fun k : Cell => iprop(∃ κ : ℕ, cellInv ER (Rd m ρ) κ (kcell (c, k))))
    ∗ (bigSep Finset.univ fun k : Cell => atPos ER (kcell (c, k)) 0 ∅ 0) ∗ (bigSep Finset.univ fun k : Cell => reached ER (kcell (c, k)) 0) ∗ toks c)

theorem open_device (c : Dev nD) :
    iprop(Pipeline.ownSems0 (Ix := Unit) (Name := ℕ) (U := UU) (Lvl := ℕ) (Val := Elt F) (τ := τ) osem c ∗ unscopedSems0 c ∗ G m ρ c)
      ⊢ iprop(|={Set.univ}=> opened m ρ c) := by
  unfold G opened
  iintro ⟨Hos, Hus, Hst, Hrest⟩
  imod (open_cells m ρ c) $$ [Hos Hus Hst] with Hinv
  · isplitr [Hst]
    · iapply (Entails.of_eq (counters_eq (F := F) c).symm)
      isplitl [Hus]; · iexact Hus
      iexact Hos
    iexact Hst
  imodintro
  isplitl [Hinv]; · iexact Hinv
  iexact Hrest

/-- All devices' counters open, their names are known to all and the tokens go to the payers. -/
theorem regroup : (bigSep Finset.univ fun c : Dev nD => opened m ρ c) ⊢ bigSep Finset.univ (G' m ρ) := by
  have hat (c : Dev nD) (K : Dev nD × Cell → ℕ) :
      iprop(records m ρ K ∗ ((bigSep Finset.univ fun k : Cell => atPos ER (kcell (c, k)) 0 ∅ 0) ∗ payToks c)) ⊢ G' m ρ c := by
    unfold G' ghost
    rw [payToks_eq]
    iintro H
    iexists K; iexact H
  unfold opened
  rw [bigSep_sep', bigSep_sep', bigSep_sep', toks_around, ← bigSep_univ_prod (fun x : Dev nD × Cell => iprop(∃ κ : ℕ, cellInv ER (Rd m ρ) κ (kcell x))),
    ← bigSep_univ_prod (fun x : Dev nD × Cell => (reached ER (kcell x) 0 : sProp 𝕄))]
  iintro ⟨HI, Hat, #HR, Htok⟩
  ihave HK := (BI.bigSep_exists_pi Finset.univ (fun (x : Dev nD × Cell) (κ : ℕ) => (cellInv ER (Rd m ρ) κ (kcell x) : sProp 𝕄))) $$ HI
  icases HK with ⟨%K, #HI⟩
  have hall : iprop(records m ρ K ∗ bigSep Finset.univ fun c : Dev nD => iprop((bigSep Finset.univ fun k : Cell => atPos ER (kcell (c, k)) 0 ∅ 0) ∗ payToks c))
      ⊢ bigSep Finset.univ (G' m ρ) := by
    refine (sep_mono_left (BI.bigSep_of_persistent (Finset.univ : Finset (Dev nD)) (records m ρ K))).trans ?_
    rw [← bigSep_sep']
    exact bigSep_mono fun c _ => hat c K
  iapply hall
  isplitr
  · unfold records
    isplitl; · iexact HI
    iexact HR
  rw [bigSep_sep']
  isplitl [Hat]; · iexact Hat
  iexact Htok

theorem open_all :
    (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ (G' m ρ) :=
  ((bigSep_mono fun c _ => open_device m ρ c).trans (bigSep_fupd _ _)).trans (BI.fupd_mono (regroup m ρ))

/-! ## What is owed at launch is what the owners wait for -/

/-- All that is owed on a counter of `c` in one kind of payment: for each slot whose payments are on it, one. -/
theorem sum_owedTo (x : Fin 7 → Cell) (c : Dev nD) (y : Cell) :
    (∑ d : Dev nD, owedTo x Finset.univ d (kcell (c, y)) ()) = ∑ k : Fin 7, if x k = y then amt (x k) else 0 := by
  unfold owedTo
  simp only [Finset.sum_apply, Finsupp.finset_sum_apply]
  rw [Finset.sum_comm]
  refine Finset.sum_congr rfl fun k _ => ?_
  rw [Finset.sum_eq_single (src k c)]
  · rw [tallyAt_apply, peer_src]
    by_cases h : x k = y
    · rw [if_pos ⟨by rw [h], rfl⟩, if_pos h]
    · rw [if_neg fun h' => h (congrArg Prod.snd (kcell_injective h'.1)).symm, if_neg h]
  · intro d _ hd
    rw [tallyAt_apply, if_neg]
    rintro ⟨h, -⟩
    have h1 : c = peer k d := congrArg Prod.fst (kcell_injective h)
    exact hd (by rw [h1, src_peer])
  · exact fun h => absurd (Finset.mem_univ _) h

/-- The counters that others owe at launch, and how much. -/
theorem sum_owed (c : Dev nD) (y : Cell) (hy : 1 ≤ level y) : (∑ d : Dev nD, owed 0 0 0 d (kcell (c, y)) ()) = total y := by
  unfold owed
  simp only [Pi.add_apply, Finsupp.add_apply, Finset.sum_add_distrib, left_zero, sum_owedTo]
  match y, hy with
  | .bar, _ => simp [amt, total]
  | .bar2, _ => simp [amt, total]
  | .recv k, _ => simp [amt, total]

theorem launch_credit (c : Dev nD) (y : Cell) (hy : 1 ≤ level y) :
    tallyOn (kcell (c, y)) (launchCredit (Pipeline.owing (owed 0 0 0)) 0 (kcell (c, y))) = (tallyAt (kcell (c, y)) () (total y) : CellTallies nD τ sig Unit) := by
  unfold tallyAt
  refine congrArg _ (Finsupp.ext fun u => ?_)
  rw [Pipeline.launchCredit_owing, Finsupp.single_eq_same, sum_owed c y hy]

/-- The credit a device launches with, at the counters it waits on for others' payments. -/
theorem credits (c : Dev nD) :
    (Pipeline.launchCred (owed 0 0 0) c : sProp 𝕄)
      ⊢ iprop(cred (tallyAt (kcell (c, Cell.bar)) () 7) ∗ cred (tallyAt (kcell (c, Cell.bar2)) () 7)
        ∗ bigSep Finset.univ fun k : Fin 7 => cred (tallyAt (kcell (c, Cell.recv k)) () N)) := by
  unfold Pipeline.launchCred
  refine (bigSep_subset (Finset.subset_univ ((Finset.univ : Finset Cell).map ⟨csem, csem_injective⟩))).trans ?_
  rw [bigSep_map]
  refine (Entails.of_eq (cells_eq (F := F) _)).trans ?_
  show iprop(cred (tallyOn (kcell (c, Cell.bar)) (launchCredit (Pipeline.owing (owed 0 0 0)) 0 (kcell (c, Cell.bar))))
      ∗ cred (tallyOn (kcell (c, Cell.bar2)) (launchCredit (Pipeline.owing (owed 0 0 0)) 0 (kcell (c, Cell.bar2))))
      ∗ (bigSep Finset.univ fun k : Fin 7 => cred (tallyOn (kcell (c, Cell.send k)) (launchCredit (Pipeline.owing (owed 0 0 0)) 0 (kcell (c, Cell.send k)))))
      ∗ bigSep Finset.univ fun k : Fin 7 => cred (tallyOn (kcell (c, Cell.recv k)) (launchCredit (Pipeline.owing (owed 0 0 0)) 0 (kcell (c, Cell.recv k))))) ⊢ _
  rw [launch_credit c Cell.bar (by decide), launch_credit c Cell.bar2 (by decide),
    bigSep_congr (fun (k : Fin 7) _ => congrArg (fun t : CellTallies nD τ sig Unit => (cred t : sProp 𝕄)) (launch_credit c (Cell.recv k) (Nat.le_of_ble_eq_true rfl)))]
  iintro ⟨H1, H2, -, H3⟩
  isplitl [H1]; · iexact H1
  isplitl [H2]; · iexact H2
  iexact H3

/-! ## Into the body and out of it -/

theorem start_intro (c : Dev nD) :
    iprop(Pipeline.unscopedRestP Pipeline.Prefetch.none cfg0.spec c (fun b => m ((c : Thread nD τ).loc b)) ∗ levAts L lv
        ∗ Pipeline.launchCred (owed 0 0 0) c ∗ prngReg c (ρ c) ∗ G' m ρ c)
      ⊢ |={Set.univ}=> iprop(start m ρ c ∗ emp) := by
  iintro ⟨-, Hlev, Hcr, -, HG⟩
  ihave Hc := (credits (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  iempintro

theorem body_enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buffers
  iintro ⟨Hs, -, Hr⟩
  isplitl [Hs]; · iexact Hs
  iexact Hr

theorem body_leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ buffers
  rw [counters_eq]
  iintro ⟨Hr, Hu, Ho⟩
  isplitl [Hu]; · iexact Hu
  isplitl [Ho]; · iexact Ho
  iexact Hr

/-- No staging counter is one of the exchange's. -/
theorem stage_ne (w : Fin 3) (s : Fin (spec0 w).nbuf) : ∀ k, csem k ≠ .dma ((spec0 w).sem s) := by
  revert s; revert w; decide

theorem waits (c : Dev nD) : (levAts L lv : sProp 𝕄) ⊢ Pipeline.cellsWaits cfgs (dats m ρ) () 0 c :=
  Pipeline.cellsWaits_intro cfgs (dats m ρ) () 0 c fun w s t => by
    obtain ⟨t, ht⟩ := t
    match t with
    | 0 => exact mayWait_stage c _ (stage_ne w s)
    | _ + 1 =>
      show (levAts L lv : sProp 𝕄) ⊢ MayWait _ _ _ 0
      rw [MayWait_zero]; iintro -; iempintro

/-! ## The run -/

/-- What each window's array holds at the end. -/
def finalA (c : Dev nD) (w : Fin cfg0.W) : Buf (Elt F) ((cfg0.win w).arr.view.loc (c : Thread nD τ)) := (dats m ρ 0 c).arrAt w cfg0.N

set_option maxRecDepth 8000 in
/-- The program, from any memory with its counters at zero: every execution ends, with every device's three arrays at
    these contents and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed 0 0 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := body_enter m ρ) (hout := body_leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments hold after the run what they held. -/
theorem finalA_0 (c : Dev nD) : finalA m ρ c (0 : Fin 3) = (s₀ m ρ).mem (win0_0.arr.view.loc (c : Thread nD τ)) := (dats (F := F) m ρ 0 c).arrAt_in (0 : Fin 3) rfl _
theorem finalA_1 (c : Dev nD) : finalA m ρ c (1 : Fin 3) = (s₀ m ρ).mem (win0_1.arr.view.loc (c : Thread nD τ)) := (dats (F := F) m ρ 0 c).arrAt_in (1 : Fin 3) rfl _

end Cert.Exchange

end
-- ==== Proof.Value.lean ====
/-
# What each device's result holds

The result's one block is its whole array, so the array ends holding what the body left (`final_result`). Over the
extended reals that is, at row `i` and column `j` of device `c`'s result, the positive part of the sum over all devices
`d` of row `128 c + i` of `d`'s part of `x` times column `j` of `d`'s part of `w` (`outAt_apply`): the device's own rows
are its own term, and slot `k` brings the term of the device `k + 1` places before it.
-/
module

public import proofs.«01_k».proof.Proof.Body
public import Idealize.ShloMosaic.Lib.Pipeline.Value
public import Idealize.ShloMosaic.Lib.MatmulPlain

@[expose] public section

noncomputable section

namespace Cert.Exchange

open Cert.KernelIdeal Cert.KernelIdeal.Gen

open Idealize.ShloMosaic
open Idealize.ShloMosaic.TcCoe
open Idealize.ShloMosaic.ValueIdx
open Idealize.SL.Sem
open scoped BigOperators

section Arrays

variable {F : FTy → Type} [FloatOps F]

variable (m : (ℓ : Loc nD τ sig) → Buf (Elt F) ℓ) (ρ : Dev nD → PrngReg)

theorem zero_off : (![0, 0] : Fin 2 → Nat) = fun _ => 0 := funext fun a => by fin_cases a <;> rfl

/-- The block of each array at the launch's one point starts at the array's first element. -/
theorem block_off0 : (fun a => win0_0.index (0 : Fin 1) a * main_arg0.ty.shape.size a) = fun _ => 0 :=
  funext fun a => by fin_cases a <;> decide
theorem block_off1 : (fun a => win0_1.index (0 : Fin 1) a * main_arg1.ty.shape.size a) = fun _ => 0 :=
  funext fun a => by fin_cases a <;> decide
theorem block_off2 : (fun a => win0_2.index (0 : Fin 1) a * main_v1.ty.shape.size a) = fun _ => 0 :=
  funext fun a => by fin_cases a <;> decide

/-- What is staged of the arguments is all of them. -/
theorem xstg_eq (c : Dev nD) : xstg m ρ c = m ((c : Thread nD τ).loc main_arg0) :=
  Memref.read_access_unit_zero (Elt F) main_arg0 block_off0 (fun a => by rw [congrFun block_off0 a]; simp) _
theorem wstg_eq (c : Dev nD) : wstg m ρ c = m ((c : Thread nD τ).loc main_arg1) :=
  Memref.read_access_unit_zero (Elt F) main_arg1 block_off1 (fun a => by rw [congrFun block_off1 a]; simp) _

/-- `w` loaded whole is `w`. -/
theorem wholeW_eq (f : (cc0_stg1_0 : Ref sig .tc).ty.Contents (Elt F)) : wholeW f = f :=
  Memref.readAt_unit_zero (Elt F) cc0_stg1_0 zero_off _ f

/-- Rows of `x` loaded at an offset, element by element. -/
theorem rowsAt_apply (o : Nat) (off : Fin 2 → Nat) (hoff : off = ![o, 0]) (h : ∀ a, off a + S128x128.size a ≤ S1024x128.size a)
    (f : (cc0_stg0_0 : Ref sig .tc).ty.Contents (Elt F)) (i t : Fin 128) (hi : o + i.val < 1024) :
    rowsAt off h f (ix2 i t) = f (ix2 (⟨o + i.val, hi⟩ : Fin 1024) t) := by
  subst hoff
  show f _ = f _
  congr 1
  funext a
  apply Fin.ext
  match a with
  | ⟨0, _⟩ => show o + 1 * i.val = o + i.val; omega
  | ⟨1, _⟩ => show 0 + 1 * t.val = t.val; omega

/-- The one write-back writes what the body left, as contents of the whole array. -/
theorem flushed_result (c : Dev nD) (t : Fin cfg0.N) (hf : (cfg0.win 2).flush t = true) :
    (dats m ρ 0 c).flushed 2 t = ((cfg0.win 2).blk t).view.read (Elt F) (outAt m ρ c) := by
  have ht : t = (0 : Fin 1) := Subsingleton.elim (α := Fin 1) _ _
  subst ht
  exact (Memref.read_access_unit_zero (Elt F) main_v1 block_off2 (fun a => by rw [congrFun block_off2 a]; simp) (outAt m ρ c)).symm

/-- So the result array ends holding what the body left. -/
theorem final_result (c : Dev nD) : (dats m ρ 0 c).arrAt 2 cfg0.N = outAt m ρ c :=
  (dats m ρ 0 c).arrAt_eq_of_cover 2 (outAt m ρ c) (flushed_result m ρ c) fun i =>
    ⟨(0 : Fin 1), flush0_2 _, by
      show i ∈ ((View.whole main_v1).slice (win0_2.rect (0 : Fin 1))).set
      rw [View.set_slice_whole, Rect.mem_set_unit]
      intro a
      have hz := congrFun block_off2 a
      refine ⟨le_of_eq_of_le hz (Nat.zero_le _), (i a).isLt.trans_eq ?_⟩
      exact (Nat.zero_add _).symm.trans (congrArg (· + main_v1.ty.shape.size a) hz.symm)⟩

end Arrays

/-! ## Over the extended reals -/

section Exact

variable (m : (ℓ : Loc nD τ sig) → Buf (Elt Ideal) ℓ) (ρ : Dev nD → PrngReg)

/-- Two blocks' product, added to nothing. -/
def prod (x : FVec Ideal S128x128 .f32) (w : FVec Ideal S128x1024 .f32) : FVec Ideal S128x1024 .f32 :=
  matmul dot_S128x128_S128x1024_S128x1024_1_0_0_1_n_n none x w (constant S128x1024 .f32 0x00000000#32)

theorem prod_apply (x : FVec Ideal S128x128 .f32) (w : FVec Ideal S128x1024 .f32) (i : Fin 128) (j : Fin 1024) :
    prod x w (ix2 i j) = ∑ t : Fin 128, x (ix2 i t) * w (ix2 t j) := by
  refine (Ideal.matmul_plain_apply (M := 128) (K := 128) (N := 1024) none x w (constant S128x1024 .f32 0x00000000#32) i j).trans ?_
  show Ideal.ofBits .f32 0x00000000#32 + _ = _
  rw [Ideal.ofBits_zero_f32, zero_add]

/-- A slot as a matrix: its first axis, of one element, dropped. -/
def unslot (s : Vec Ideal S1x128x1024 .bf16) : FVec Ideal S128x1024 .f32 := fun i =>
  shapeCast S128x1024 s shapeCasts_S1x128x1024_S128x1024 i

/-- What a device puts in a slot is, as a matrix, the product: narrowing changes no extended real. -/
theorem unslot_pay (x : FVec Ideal S128x128 .f32) (w : FVec Ideal S128x1024 .f32) : unslot (k0_pay1 (F := Ideal) x w) = prod x w := by
  unfold unslot k0_pay1
  dsimp only
  rw [shapeCast_shapeCast, shapeCast_self, shapeCast_self]
  rfl

/-- The own product and the seven slots added up, and the positive part, element by element. -/
theorem addUp_apply (x : FVec Ideal S128x128 .f32) (w : FVec Ideal S128x1024 .f32) (s : Fin 7 → Vec Ideal S1x128x1024 .bf16) (y : S128x1024.Idx) :
    addUp x w s y = max (prod x w y + ∑ k : Fin 7, unslot (s k) y) 0 := by
  have h : addUp x w s y = max (prod x w y + unslot (s 0) y + unslot (s 1) y + unslot (s 2) y + unslot (s 3) y
      + unslot (s 4) y + unslot (s 5) y + unslot (s 6) y) (Ideal.ofBits .f32 0x00000000#32) := by
    unfold addUp k0_pay14 k0_pay13 k0_pay12 k0_pay11 k0_pay10
    dsimp only
    rw [shapeCast_self, shapeCast_self]
    rfl
  rw [h, Ideal.ofBits_zero_f32, Fin.sum_univ_seven]
  simp only [add_assoc]

/-- Device `d`'s part of `x` and of `w`, and device `c`'s result, as matrices. -/
abbrev xOf (d : Dev nD) : FVec Ideal S1024x128 .f32 := m ((d : Thread nD τ).loc main_arg0)
abbrev wOf (d : Dev nD) : FVec Ideal S128x1024 .f32 := m ((d : Thread nD τ).loc main_arg1)
abbrev outOf (c : Dev nD) : FVec Ideal S128x1024 .f32 := outAt m ρ c

/-- Device `d`'s term of element `(i, j)` of device `c`'s result. -/
def term (c d : Dev nD) (i : Fin 128) (j : Fin 1024) : EReal :=
  ∑ t : Fin 128, xOf m d (ix2 (⟨128 * c.val + i.val, by have : c.val < 8 := c.isLt; have := i.isLt; omega⟩ : Fin 1024) t)
    * wOf m d (ix2 t j)

/-- Device `c`'s rows of device `d`'s `x`, however the offset is spelled, times `d`'s `w`: `d`'s term. -/
theorem prod_rows (c d : Dev nD) (off : Fin 2 → Nat) (hoff : off = ![128 * c.val, 0]) (h : ∀ a, off a + S128x128.size a ≤ S1024x128.size a)
    (i : Fin 128) (j : Fin 1024) : prod (rowsAt off h (xstg m ρ d)) (wholeW (wstg m ρ d)) (ix2 i j) = term m c d i j := by
  rw [prod_apply, wholeW_eq, wstg_eq, xstg_eq]
  exact Finset.sum_congr rfl fun t _ => congrArg (· * _) (rowsAt_apply (128 * c.val) off hoff h _ i t _)

/-- Slot `k`'s peer, as a place on the ring: the rows a source sends are its target's. -/
theorem src_rows (k : Fin 7) (c : Dev nD) : ((src k c).val + k.val + 1) % 8 = c.val := by revert k c; decide

/-- A device and the seven that send to it are all the devices. -/
theorem sum_devices (f : Dev nD → EReal) (c : Dev nD) : f c + ∑ k : Fin 7, f (src k c) = ∑ d : Dev nD, f d := by
  have himg : (Finset.univ : Finset (Fin 7)).image (src · c) = Finset.univ.erase c := by revert c; decide
  rw [← Finset.add_sum_erase Finset.univ f (Finset.mem_univ c), ← himg, Finset.sum_image]
  intro k _ k' _ h
  exact (by revert k k' c; decide : ∀ k k' : Fin 7, src k c = src k' c → k = k') k k' h

/-- The result of device `c`: the positive part of the sum of every device's term. -/
theorem outAt_apply (c : Dev nD) (i : Fin 128) (j : Fin 1024) : outOf m ρ c (ix2 i j) = max (∑ d : Dev nD, term m c d i j) 0 := by
  unfold outOf outAt
  rw [addUp_apply, prod_rows m ρ c c _ (k0_off2_eq c), ← sum_devices (fun d => term m c d i j) c]
  refine congrArg (fun z => max (term m c c i j + z) 0) (Finset.sum_congr rfl fun k _ => ?_)
  unfold sent
  rw [unslot_pay, prod_rows m ρ c (src k c)]
  exact (k0_off1_eq (src k c) k).trans (by rw [src_rows])

end Exact

end Cert.Exchange

end
-- ==== Proof.Equation.lean ====
/-
# The two programs compute one function

The reference multiplies the whole matrices and takes the positive part (`whole_apply`). Its row `128 c + i` and column
`j` sums over 1024 contracted positions; position `128 d + t` is position `t` of device `d`'s parts of the two matrices, so
the sum is the sum of the devices' terms, which is what device `c` of the kernel holds (`result_eq`).
-/
module

public import proofs.«01_k».proof.Proof.Value
public import proofs.«01_k».proof.Proof.Gen.ReferenceIdeal.Run
public import Idealize.ShloMosaic.Lib.StackMember
public import Idealize.ShloMosaic.Lib.Layout
public import Idealize.ShloMosaic.Lib.Quiescent

@[expose] public section

noncomputable section

namespace Cert.Exchange

open Idealize.ShloMosaic
open Idealize.ShloMosaic.TcCoe
open Idealize.ShloMosaic.ValueIdx
open Idealize.SL.Sem
open scoped BigOperators

/-- The shape of the whole matrices. -/
abbrev Whole : Shape := ⟨2, ![1024, 1024]⟩

/-- The reference's result: the product's positive part. -/
def whole (X W : FVec Ideal Whole .f32) : FVec Ideal Whole .f32 :=
  maximumf (Host.dotGeneral Cert.ReferenceIdeal.dot_S1024x1024_S1024x1024_S1024x1024_1_0_0_1_n_n none X W)
    (broadcastInDim Cert.ReferenceIdeal.S1024x1024 ![] Cert.ReferenceIdeal.Gen.bcast_S_S1024x1024 (constant Cert.ReferenceIdeal.S_ .f32 0x00000000#32))

theorem whole_apply (X W : FVec Ideal Whole .f32) (r j : Fin 1024) :
    whole X W (ix2 r j) = max (∑ s : Fin 1024, X (ix2 r s) * W (ix2 s j)) 0 := by
  show max (Host.dotGeneral (DotDims.plain 1024 1024 1024) none X W (ix2 r j)) (Ideal.ofBits .f32 0x00000000#32) = _
  rw [StackMember.dotGeneral_plain_apply, Ideal.ofBits_zero_f32]

/-- A sum over 1024 positions, taken as 8 runs of 128. -/
theorem sum_runs (f : Fin 1024 → EReal) :
    ∑ s, f s = ∑ d : Fin 8, ∑ t : Fin 128, f ⟨128 * d.val + t.val, by have := d.isLt; have := t.isLt; omega⟩ := by
  rw [← Equiv.sum_comp (finProdFinEquiv (m := 8) (n := 128)) f, Fintype.sum_prod_type]
  exact Finset.sum_congr rfl fun d _ => Finset.sum_congr rfl fun t _ => congrArg f (Fin.ext (Nat.add_comm _ _))

section Launch

open Cert.KernelIdeal

variable (m : (ℓ : Loc nD τ sig) → Buf (Elt Ideal) ℓ) (ρ : Dev nD → PrngReg)

/-- If every device's arguments are its parts of `X` (by columns) and `W` (by rows), every device's result is its part, by
    rows, of the reference's. -/
theorem result_eq (X W : FVec Ideal Whole .f32)
    (hX : ∀ c : Dev nD, m ((c : Thread nD τ).loc main_arg0) = Layout.block ⟨2, ![1024, 128]⟩ Whole 1 8 c X)
    (hW : ∀ c : Dev nD, m ((c : Thread nD τ).loc main_arg1) = Layout.block ⟨2, ![128, 1024]⟩ Whole 0 8 c W) (c : Dev nD) :
    outAt m ρ c = Layout.block ⟨2, ![128, 1024]⟩ Whole 0 8 c (whole X W) := by
  funext y
  obtain ⟨i, j, rfl⟩ : ∃ (i : Fin 128) (j : Fin 1024), y = ix2 i j := ⟨_, _, eq_ix2 y⟩
  have hc : 128 * c.val + i.val < 1024 := by have : c.val < 8 := c.isLt; have := i.isLt; omega
  have hat : Layout.block ⟨2, ![128, 1024]⟩ Whole 0 8 c (whole X W) (by decide) (ix2 i j) = whole X W (ix2 ⟨128 * c.val + i.val, hc⟩ j) := by
    rw [Layout.block_apply]
    congr 1
    funext a
    apply Fin.ext
    match a with
    | ⟨0, _⟩ => show c.val * 128 + i.val = 128 * c.val + i.val; omega
    | ⟨1, _⟩ => rfl
  rw [hat, whole_apply, sum_runs]
  refine (outAt_apply m ρ c i j).trans ?_
  refine congrArg (max · 0) (Finset.sum_congr rfl fun d _ => Finset.sum_congr rfl fun t _ => ?_)
  unfold xOf wOf
  rw [hX d, hW d, Layout.block_apply, Layout.block_apply]
  congr 2
  · funext a
    apply Fin.ext
    match a with
    | ⟨0, _⟩ => rfl
    | ⟨1, _⟩ => show d.val * 128 + t.val = 128 * d.val + t.val; omega
  · funext a
    apply Fin.ext
    match a with
    | ⟨0, _⟩ => show d.val * 128 + t.val = 128 * d.val + t.val; omega
    | ⟨1, _⟩ => rfl

end Launch

end Cert.Exchange

end
-- ==== Proof.Same.lean ====
/-
# The printed program and its idealization are one program

The idealization rewrote nothing, so the two texts agree; their tables of bodies are compared body by body, so that a run
of the one is a run of the other.
-/
module

public import proofs.«01_k».proof.Proof.Gen.Kernel
public import proofs.«01_k».proof.Proof.Gen.KernelIdeal

@[expose] public section

noncomputable section

namespace Cert.Exchange

open Idealize.ShloMosaic Idealize.SL.Sem

variable {F : FTy → Type} [FloatOps F]

/-- The kernel's body is the same, at any float values; -/
theorem same_body : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl

/-- so is the pipeline around it. -/
theorem same_defs : Cert.Kernel.defs (F := F) = Cert.KernelIdeal.defs (F := F) := by
  unfold Cert.Kernel.defs Cert.KernelIdeal.defs
  rw [same_body]
  rfl

end Cert.Exchange

end
-- ==== Proof.lean ====
/-
# The claims

The kernel's run is stated once, at any float values (`Proof/Run.lean`): it gives both frames, of the printed program and
of its idealization, and, with the value of the result (`Proof/Equation.lean`), the algebraic claim. The reference's run
is its operations' composed term; it has no counters.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import proofs.«01_k».proof.Proof.Same
public import Idealize.ShloMosaic.Adequacy
public import Idealize.ShloMosaic.Init

@[expose] public section

noncomputable section

namespace Cert.Proof

open Idealize.ShloMosaic Idealize.SL.Sem Cert.Exchange

section Any

open Cert.KernelIdeal Idealize.ShloMosaic.TcCoe

/-- The kernel runs, at any float values, its arguments unchanged and its counters back at zero. -/
theorem frame_any {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_0 m g c), (h.1 c (1 : Fin 3)).trans (finalA_1 m g c)⟩, h.2⟩)
    (run_main m g)

end Any

/-- So the printed kernel runs, -/
theorem frame_kernel : Cert.quiescent_Kernel := fun m g _ => by
  rw [same_defs]
  exact frame_any (F := Bits) m g

/-- so does its idealization, -/
theorem frame_kernelIdeal : Cert.quiescent_KernelIdeal := fun m g _ => frame_any (F := Ideal) m g

/-- and so does the reference, which has no counter. -/
theorem frame_reference : Cert.quiescent_ReferenceIdeal := fun m g _ =>
  (θ_run Cert.ReferenceIdeal.defs _ _).mono
    (fun _ h => ⟨fun c => (h c).2, sem_eq_zero_of_no_sems (by decide) _⟩) (Cert.ReferenceIdeal.Value.run m g)

/-- Over the extended reals every device ends with its block of rows of the reference's result. -/
theorem same_function : Cert.algebraic_KernelIdeal_ReferenceIdeal := fun m g m' g' _ hin =>
  ⟨whole _ _,
    (θ_run Cert.KernelIdeal.defs _ _).mono
      (fun _ h c => ⟨((h.1 c (2 : Fin 3)).trans (final_result m g c)).trans
          (result_eq m g _ _ (fun d => (hin d).1) (fun d => (hin d).2) c),
        (h.1 c (0 : Fin 3)).trans (finalA_0 (F := Ideal) m g c), (h.1 c (1 : Fin 3)).trans (finalA_1 (F := Ideal) m g c)⟩)
      (run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, same_function⟩

end Cert.Proof

end
